-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v264) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x16x64x64 : Shape := ⟨4, ![256, 16, 64, 64]⟩
abbrev S16x128 : Shape := ⟨2, ![16, 128]⟩
abbrev S256x16x4096 : Shape := ⟨3, ![256, 16, 4096]⟩
abbrev S32 : Shape := ⟨1, ![32]⟩
abbrev S_ : Shape := ⟨0, ![]⟩
abbrev S128 : Shape := ⟨1, ![128]⟩
abbrev S1x128 : Shape := ⟨2, ![1, 128]⟩
abbrev S256x16x16x128 : Shape := ⟨4, ![256, 16, 16, 128]⟩
abbrev S1x16x4096 : Shape := ⟨3, ![1, 16, 4096]⟩
abbrev S1x16x16x128 : Shape := ⟨4, ![1, 16, 16, 128]⟩
abbrev S16x4096 : Shape := ⟨2, ![16, 4096]⟩
abbrev S16 : Shape := ⟨1, ![16]⟩
abbrev S16x1 : Shape := ⟨2, ![16, 1]⟩
abbrev S16x16 : Shape := ⟨2, ![16, 16]⟩
abbrev S1x16x16 : Shape := ⟨3, ![1, 16, 16]⟩
abbrev S1 : Shape := ⟨1, ![1]⟩
abbrev S1x1x1 : Shape := ⟨3, ![1, 1, 1]⟩
abbrev S16x16x128 : Shape := ⟨3, ![16, 16, 128]⟩
abbrev S16x16x1 : Shape := ⟨3, ![16, 16, 1]⟩
abbrev S1x1x128 : Shape := ⟨3, ![1, 1, 128]⟩
abbrev S16x1x128 : Shape := ⟨3, ![16, 1, 128]⟩

abbrev nBuf : Space → Nat
  | .hbm => 12
  | .vmem => 6
  | .smem => 0
  | _ => 0

abbrev bufTy : (tb : Table) → Fin (tcTables nBuf tb) → BufTy
  | .hbm, ⟨0, _⟩ => ⟨S256x16x64x64, .f32⟩
  | .hbm, ⟨1, _⟩ => ⟨S16x128, .f32⟩
  | .hbm, ⟨2, _⟩ => ⟨S256x16x4096, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S128, .f32⟩
  | .hbm, ⟨9, _⟩ => ⟨S1x128, .f32⟩
  | .hbm, ⟨10, _⟩ => ⟨S256x16x16x128, .f32⟩
  | .hbm, ⟨11, _⟩ => ⟨S256x16x16x128, .f32⟩
  | .local _ .vmem, ⟨0, _⟩ => ⟨S1x16x4096, .f32⟩
  | .local _ .vmem, ⟨1, _⟩ => ⟨S1x16x4096, .f32⟩
  | .local _ .vmem, ⟨2, _⟩ => ⟨S16x128, .f32⟩
  | .local _ .vmem, ⟨3, _⟩ => ⟨S1x128, .f32⟩
  | .local _ .vmem, ⟨4, _⟩ => ⟨S1x16x16x128, .f32⟩
  | .local _ .vmem, ⟨5, _⟩ => ⟨S1x16x16x128, .f32⟩
  | _, _ => ⟨S256x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S256x16x64x64 : Shape := ⟨4, ![256, 16, 64, 64]⟩
abbrev S16x128 : Shape := ⟨2, ![16, 128]⟩
abbrev S_ : Shape := ⟨0, ![]⟩
abbrev S4096x4096 : Shape := ⟨2, ![4096, 4096]⟩
abbrev S16x4096x4096 : Shape := ⟨3, ![16, 4096, 4096]⟩
abbrev S1x4096x4096 : Shape := ⟨3, ![1, 4096, 4096]⟩
abbrev S16x4096x1 : Shape := ⟨3, ![16, 4096, 1]⟩
abbrev S16x4096 : Shape := ⟨2, ![16, 4096]⟩
abbrev S4096x16 : Shape := ⟨2, ![4096, 16]⟩
abbrev S4096x16x1 : Shape := ⟨3, ![4096, 16, 1]⟩
abbrev S1 : Shape := ⟨1, ![1]⟩
abbrev S1x1x1 : Shape := ⟨3, ![1, 1, 1]⟩
abbrev S256x16x16 : Shape := ⟨3, ![256, 16, 16]⟩
abbrev S256 : Shape := ⟨1, ![256]⟩
abbrev S256x1x1 : Shape := ⟨3, ![256, 1, 1]⟩
abbrev S256x16x16x1 : Shape := ⟨4, ![256, 16, 16, 1]⟩
abbrev S256x16x16x2 : Shape := ⟨4, ![256, 16, 16, 2]⟩
abbrev S256x1x1x1 : Shape := ⟨4, ![256, 1, 1, 1]⟩
abbrev S32 : Shape := ⟨1, ![32]⟩
abbrev S1x1x1x32 : Shape := ⟨4, ![1, 1, 1, 32]⟩
abbrev S256x16x16x32 : Shape := ⟨4, ![256, 16, 16, 32]⟩
abbrev S256x16x16x64 : Shape := ⟨4, ![256, 16, 16, 64]⟩
abbrev S256x16x16x128 : Shape := ⟨4, ![256, 16, 16, 128]⟩
abbrev S1x16x1x128 : Shape := ⟨4, ![1, 16, 1, 128]⟩

abbrev nBuf : Space → Nat
  | .hbm => 408
  | .vmem => 0
  | .smem => 0
  | _ => 0

abbrev hbmTy0_0 (i : Nat) : BufTy := match i % 128 with
  | 0 => ⟨S256x16x64x64, .f32⟩
  | 1 => ⟨S16x128, .f32⟩
  | 2 => ⟨S_, .f32⟩
  | 3 => ⟨S256x16x64x64, .f32⟩
  | 4 => ⟨S256x16x64x64, .i1⟩
  | 5 => ⟨S_, .f32⟩
  | 6 => ⟨S_, .f32⟩
  | 7 => ⟨S256x16x64x64, .f32⟩
  | 8 => ⟨S256x16x64x64, .f32⟩
  | 9 => ⟨S4096x4096, .f32⟩
  | 10 => ⟨S_, .f32⟩
  | 11 => ⟨S4096x4096, .f32⟩
  | 12 => ⟨S4096x4096, .i1⟩
  | 13 => ⟨S_, .f32⟩
  | 14 => ⟨S4096x4096, .f32⟩
  | 15 => ⟨S4096x4096, .i1⟩
  | 16 => ⟨S_, .f32⟩
  | 17 => ⟨S_, .f32⟩
  | 18 => ⟨S4096x4096, .f32⟩
  | 19 => ⟨S4096x4096, .f32⟩
  | 20 => ⟨S4096x4096, .f32⟩
  | 21 => ⟨S_, .f32⟩
  | 22 => ⟨S_, .f32⟩
  | 23 => ⟨S4096x4096, .f32⟩
  | 24 => ⟨S4096x4096, .f32⟩
  | 25 => ⟨S16x4096x4096, .i32⟩
  | 26 => ⟨S_, .i32⟩
  | 27 => ⟨S16x4096x4096, .i32⟩
  | 28 => ⟨S16x4096x4096, .i32⟩
  | 29 => ⟨S16x4096x4096, .i32⟩
  | 30 => ⟨S16x4096x4096, .i32⟩
  | 31 => ⟨S_, .i32⟩
  | 32 => ⟨S16x4096x4096, .i32⟩
  | 33 => ⟨S16x4096x4096, .i32⟩
  | 34 => ⟨S16x4096x4096, .i32⟩
  | 35 => ⟨S16x4096x4096, .i32⟩
  | 36 => ⟨S_, .i32⟩
  | 37 => ⟨S16x4096x4096, .i32⟩
  | 38 => ⟨S_, .i32⟩
  | 39 => ⟨S16x4096x4096, .i32⟩
  | 40 => ⟨S16x4096x4096, .i32⟩
  | 41 => ⟨S_, .i32⟩
  | 42 => ⟨S16x4096x4096, .i32⟩
  | 43 => ⟨S16x4096x4096, .i32⟩
  | 44 => ⟨S16x4096x4096, .i32⟩
  | 45 => ⟨S_, .i32⟩
  | 46 => ⟨S16x4096x4096, .i32⟩
  | 47 => ⟨S16x4096x4096, .i32⟩
  | 48 => ⟨S_, .i32⟩
  | 49 => ⟨S16x4096x4096, .i32⟩
  | 50 => ⟨S16x4096x4096, .i32⟩
  | 51 => ⟨S16x4096x4096, .i32⟩
  | 52 => ⟨S16x4096x4096, .i32⟩
  | 53 => ⟨S16x4096x4096, .i32⟩
  | 54 => ⟨S_, .i32⟩
  | 55 => ⟨S16x4096x4096, .i32⟩
  | 56 => ⟨S16x4096x4096, .i32⟩
  | 57 => ⟨S_, .i32⟩
  | 58 => ⟨S16x4096x4096, .i32⟩
  | 59 => ⟨S16x4096x4096, .i32⟩
  | 60 => ⟨S16x4096x4096, .i32⟩
  | 61 => ⟨S16x4096x4096, .i32⟩
  | 62 => ⟨S16x4096x4096, .i32⟩
  | 63 => ⟨S_, .i32⟩
  | 64 => ⟨S16x4096x4096, .i32⟩
  | 65 => ⟨S16x4096x4096, .i32⟩
  | 66 => ⟨S_, .i32⟩
  | 67 => ⟨S16x4096x4096, .i32⟩
  | 68 => ⟨S16x4096x4096, .i32⟩
  | 69 => ⟨S16x4096x4096, .i32⟩
  | 70 => ⟨S16x4096x4096, .i32⟩
  | 71 => ⟨S16x4096x4096, .i32⟩
  | 72 => ⟨S_, .i32⟩
  | 73 => ⟨S16x4096x4096, .i32⟩
  | 74 => ⟨S16x4096x4096, .i32⟩
  | 75 => ⟨S_, .i32⟩
  | 76 => ⟨S16x4096x4096, .i32⟩
  | 77 => ⟨S16x4096x4096, .i32⟩
  | 78 => ⟨S16x4096x4096, .i32⟩
  | 79 => ⟨S16x4096x4096, .i32⟩
  | 80 => ⟨S_, .i32⟩
  | 81 => ⟨S16x4096x4096, .i32⟩
  | 82 => ⟨S16x4096x4096, .i32⟩
  | 83 => ⟨S_, .i32⟩
  | 84 => ⟨S16x4096x4096, .i32⟩
  | 85 => ⟨S16x4096x4096, .i32⟩
  | 86 => ⟨S16x4096x4096, .i32⟩
  | 87 => ⟨S_, .i32⟩
  | 88 => ⟨S16x4096x4096, .i32⟩
  | 89 => ⟨S16x4096x4096, .i32⟩
  | 90 => ⟨S_, .i32⟩
  | 91 => ⟨S16x4096x4096, .i32⟩
  | 92 => ⟨S16x4096x4096, .i32⟩
  | 93 => ⟨S16x4096x4096, .i32⟩
  | 94 => ⟨S16x4096x4096, .i32⟩
  | 95 => ⟨S16x4096x4096, .i32⟩
  | 96 => ⟨S_, .i32⟩
  | 97 => ⟨S16x4096x4096, .i32⟩
  | 98 => ⟨S16x4096x4096, .i32⟩
  | 99 => ⟨S_, .i32⟩
  | 100 => ⟨S16x4096x4096, .i32⟩
  | 101 => ⟨S16x4096x4096, .i32⟩
  | 102 => ⟨S16x4096x4096, .i32⟩
  | 103 => ⟨S16x4096x4096, .i32⟩
  | 104 => ⟨S16x4096x4096, .i32⟩
  | 105 => ⟨S_, .i32⟩
  | 106 => ⟨S16x4096x4096, .i32⟩
  | 107 => ⟨S16x4096x4096, .i32⟩
  | 108 => ⟨S_, .i32⟩
  | 109 => ⟨S16x4096x4096, .i32⟩
  | 110 => ⟨S16x4096x4096, .i32⟩
  | 111 => ⟨S16x4096x4096, .i32⟩
  | 112 => ⟨S16x4096x4096, .i32⟩
  | 113 => ⟨S16x4096x4096, .i32⟩
  | 114 => ⟨S_, .i32⟩
  | 115 => ⟨S16x4096x4096, .i32⟩
  | 116 => ⟨S16x4096x4096, .i32⟩
  | 117 => ⟨S_, .i32⟩
  | 118 => ⟨S16x4096x4096, .i32⟩
  | 119 => ⟨S16x4096x4096, .i32⟩
  | 120 => ⟨S16x4096x4096, .i32⟩
  | 121 => ⟨S16x4096x4096, .i32⟩
  | 122 => ⟨S_, .i32⟩
  | 123 => ⟨S16x4096x4096, .i32⟩
  | 124 => ⟨S16x4096x4096, .i32⟩
  | 125 => ⟨S_, .i32⟩
  | 126 => ⟨S16x4096x4096, .i32⟩
  | 127 => ⟨S16x4096x4096, .i32⟩
  | _ => ⟨S256x16x64x64, .f32⟩

abbrev hbmTy0_1 (i : Nat) : BufTy := match i % 128 with
  | 0 => ⟨S16x4096x4096, .i32⟩
  | 1 => ⟨S_, .i32⟩
  | 2 => ⟨S16x4096x4096, .i32⟩
  | 3 => ⟨S16x4096x4096, .i32⟩
  | 4 => ⟨S_, .i32⟩
  | 5 => ⟨S16x4096x4096, .i32⟩
  | 6 => ⟨S16x4096x4096, .i32⟩
  | 7 => ⟨S16x4096x4096, .i32⟩
  | 8 => ⟨S16x4096x4096, .i32⟩
  | 9 => ⟨S16x4096x4096, .i32⟩
  | 10 => ⟨S_, .i32⟩
  | 11 => ⟨S16x4096x4096, .i32⟩
  | 12 => ⟨S16x4096x4096, .i32⟩
  | 13 => ⟨S_, .i32⟩
  | 14 => ⟨S16x4096x4096, .i32⟩
  | 15 => ⟨S16x4096x4096, .i32⟩
  | 16 => ⟨S16x4096x4096, .i32⟩
  | 17 => ⟨S16x4096x4096, .i32⟩
  | 18 => ⟨S16x4096x4096, .i32⟩
  | 19 => ⟨S_, .i32⟩
  | 20 => ⟨S16x4096x4096, .i32⟩
  | 21 => ⟨S16x4096x4096, .i32⟩
  | 22 => ⟨S_, .i32⟩
  | 23 => ⟨S16x4096x4096, .i32⟩
  | 24 => ⟨S16x4096x4096, .i32⟩
  | 25 => ⟨S16x4096x4096, .i32⟩
  | 26 => ⟨S16x4096x4096, .i32⟩
  | 27 => ⟨S16x4096x4096, .i32⟩
  | 28 => ⟨S_, .i32⟩
  | 29 => ⟨S16x4096x4096, .i32⟩
  | 30 => ⟨S16x4096x4096, .i32⟩
  | 31 => ⟨S_, .i32⟩
  | 32 => ⟨S16x4096x4096, .i32⟩
  | 33 => ⟨S16x4096x4096, .i32⟩
  | 34 => ⟨S16x4096x4096, .i32⟩
  | 35 => ⟨S16x4096x4096, .i32⟩
  | 36 => ⟨S_, .i32⟩
  | 37 => ⟨S16x4096x4096, .i32⟩
  | 38 => ⟨S16x4096x4096, .i32⟩
  | 39 => ⟨S_, .i32⟩
  | 40 => ⟨S16x4096x4096, .i32⟩
  | 41 => ⟨S16x4096x4096, .i32⟩
  | 42 => ⟨S16x4096x4096, .i32⟩
  | 43 => ⟨S_, .i32⟩
  | 44 => ⟨S16x4096x4096, .i32⟩
  | 45 => ⟨S16x4096x4096, .i32⟩
  | 46 => ⟨S_, .i32⟩
  | 47 => ⟨S16x4096x4096, .i32⟩
  | 48 => ⟨S16x4096x4096, .i32⟩
  | 49 => ⟨S16x4096x4096, .i32⟩
  | 50 => ⟨S16x4096x4096, .i32⟩
  | 51 => ⟨S16x4096x4096, .i32⟩
  | 52 => ⟨S_, .i32⟩
  | 53 => ⟨S16x4096x4096, .i32⟩
  | 54 => ⟨S16x4096x4096, .i32⟩
  | 55 => ⟨S_, .i32⟩
  | 56 => ⟨S16x4096x4096, .i32⟩
  | 57 => ⟨S16x4096x4096, .i32⟩
  | 58 => ⟨S16x4096x4096, .i32⟩
  | 59 => ⟨S16x4096x4096, .i32⟩
  | 60 => ⟨S16x4096x4096, .i32⟩
  | 61 => ⟨S_, .i32⟩
  | 62 => ⟨S16x4096x4096, .i32⟩
  | 63 => ⟨S16x4096x4096, .i32⟩
  | 64 => ⟨S_, .i32⟩
  | 65 => ⟨S16x4096x4096, .i32⟩
  | 66 => ⟨S16x4096x4096, .i32⟩
  | 67 => ⟨S16x4096x4096, .i32⟩
  | 68 => ⟨S16x4096x4096, .i32⟩
  | 69 => ⟨S16x4096x4096, .i32⟩
  | 70 => ⟨S_, .i32⟩
  | 71 => ⟨S16x4096x4096, .i32⟩
  | 72 => ⟨S16x4096x4096, .i32⟩
  | 73 => ⟨S_, .i32⟩
  | 74 => ⟨S16x4096x4096, .i32⟩
  | 75 => ⟨S16x4096x4096, .i32⟩
  | 76 => ⟨S16x4096x4096, .i32⟩
  | 77 => ⟨S16x4096x4096, .i32⟩
  | 78 => ⟨S_, .i32⟩
  | 79 => ⟨S16x4096x4096, .i32⟩
  | 80 => ⟨S16x4096x4096, .i32⟩
  | 81 => ⟨S_, .i32⟩
  | 82 => ⟨S16x4096x4096, .i32⟩
  | 83 => ⟨S16x4096x4096, .i32⟩
  | 84 => ⟨S16x4096x4096, .i32⟩
  | 85 => ⟨S_, .i32⟩
  | 86 => ⟨S16x4096x4096, .i32⟩
  | 87 => ⟨S16x4096x4096, .i32⟩
  | 88 => ⟨S_, .i32⟩
  | 89 => ⟨S16x4096x4096, .i32⟩
  | 90 => ⟨S16x4096x4096, .i32⟩
  | 91 => ⟨S16x4096x4096, .i32⟩
  | 92 => ⟨S16x4096x4096, .i32⟩
  | 93 => ⟨S16x4096x4096, .i32⟩
  | 94 => ⟨S_, .i32⟩
  | 95 => ⟨S16x4096x4096, .i32⟩
  | 96 => ⟨S16x4096x4096, .i32⟩
  | 97 => ⟨S_, .i32⟩
  | 98 => ⟨S16x4096x4096, .i32⟩
  | 99 => ⟨S16x4096x4096, .i32⟩
  | 100 => ⟨S16x4096x4096, .i32⟩
  | 101 => ⟨S16x4096x4096, .i32⟩
  | 102 => ⟨S16x4096x4096, .i32⟩
  | 103 => ⟨S_, .i32⟩
  | 104 => ⟨S16x4096x4096, .i32⟩
  | 105 => ⟨S16x4096x4096, .i32⟩
  | 106 => ⟨S_, .i32⟩
  | 107 => ⟨S16x4096x4096, .i32⟩
  | 108 => ⟨S16x4096x4096, .i32⟩
  | 109 => ⟨S16x4096x4096, .i32⟩
  | 110 => ⟨S16x4096x4096, .i32⟩
  | 111 => ⟨S16x4096x4096, .i32⟩
  | 112 => ⟨S_, .i32⟩
  | 113 => ⟨S16x4096x4096, .i32⟩
  | 114 => ⟨S16x4096x4096, .i32⟩
  | 115 => ⟨S_, .i32⟩
  | 116 => ⟨S16x4096x4096, .i32⟩
  | 117 => ⟨S16x4096x4096, .i32⟩
  | 118 => ⟨S16x4096x4096, .i32⟩
  | 119 => ⟨S16x4096x4096, .i32⟩
  | 120 => ⟨S_, .i32⟩
  | 121 => ⟨S16x4096x4096, .i32⟩
  | 122 => ⟨S16x4096x4096, .i32⟩
  | 123 => ⟨S_, .i32⟩
  | 124 => ⟨S16x4096x4096, .i32⟩
  | 125 => ⟨S16x4096x4096, .i32⟩
  | 126 => ⟨S16x4096x4096, .i32⟩
  | 127 => ⟨S_, .i32⟩
  | _ => ⟨S256x16x64x64, .f32⟩

abbrev hbmTy0_2 (i : Nat) : BufTy := match i % 128 with
  | 0 => ⟨S16x4096x4096, .i32⟩
  | 1 => ⟨S16x4096x4096, .i32⟩
  | 2 => ⟨S_, .i32⟩
  | 3 => ⟨S16x4096x4096, .i32⟩
  | 4 => ⟨S16x4096x4096, .i32⟩
  | 5 => ⟨S16x4096x4096, .f32⟩
  | 6 => ⟨S_, .f32⟩
  | 7 => ⟨S16x4096x4096, .f32⟩
  | 8 => ⟨S16x4096x4096, .f32⟩
  | 9 => ⟨S_, .f32⟩
  | 10 => ⟨S16x4096x4096, .f32⟩
  | 11 => ⟨S16x4096x4096, .f32⟩
  | 12 => ⟨S16x4096x4096, .f32⟩
  | 13 => ⟨S16x4096x4096, .f32⟩
  | 14 => ⟨S16x4096x4096, .f32⟩
  | 15 => ⟨S16x4096x4096, .f32⟩
  | 16 => ⟨S1x4096x4096, .f32⟩
  | 17 => ⟨S16x4096x4096, .f32⟩
  | 18 => ⟨S16x4096x4096, .f32⟩
  | 19 => ⟨S16x4096x1, .f32⟩
  | 20 => ⟨S16x4096x1, .i32⟩
  | 21 => ⟨S16x4096, .i32⟩
  | 22 => ⟨S4096x16, .i32⟩
  | 23 => ⟨S_, .i32⟩
  | 24 => ⟨S4096x16, .i32⟩
  | 25 => ⟨S4096x16, .i1⟩
  | 26 => ⟨S_, .i32⟩
  | 27 => ⟨S4096x16, .i32⟩
  | 28 => ⟨S4096x16, .i32⟩
  | 29 => ⟨S4096x16, .i32⟩
  | 30 => ⟨S4096x16x1, .i32⟩
  | 31 => ⟨S1, .i32⟩
  | 32 => ⟨S_, .i32⟩
  | 33 => ⟨S4096x16x1, .i32⟩
  | 34 => ⟨S4096x16x1, .i1⟩
  | 35 => ⟨S1x1x1, .i32⟩
  | 36 => ⟨S4096x16x1, .i32⟩
  | 37 => ⟨S4096x16x1, .i1⟩
  | 38 => ⟨S4096x16x1, .i1⟩
  | 39 => ⟨S_, .i1⟩
  | 40 => ⟨S4096x16, .i1⟩
  | 41 => ⟨S4096x16, .f32⟩
  | 42 => ⟨S_, .f32⟩
  | 43 => ⟨S4096x16, .f32⟩
  | 44 => ⟨S4096x16, .f32⟩
  | 45 => ⟨S256x16x16, .f32⟩
  | 46 => ⟨S256x16x16, .i32⟩
  | 47 => ⟨S256x16x16, .f32⟩
  | 48 => ⟨S_, .f32⟩
  | 49 => ⟨S_, .f32⟩
  | 50 => ⟨S256x16x16, .f32⟩
  | 51 => ⟨S256x16x16, .f32⟩
  | 52 => ⟨S_, .f32⟩
  | 53 => ⟨S256x16x16, .f32⟩
  | 54 => ⟨S256x16x16, .i1⟩
  | 55 => ⟨S_, .f32⟩
  | 56 => ⟨S256x16x16, .f32⟩
  | 57 => ⟨S256x16x16, .i1⟩
  | 58 => ⟨S_, .f32⟩
  | 59 => ⟨S_, .i1⟩
  | 60 => ⟨S256x16x16, .i1⟩
  | 61 => ⟨S256x16x16, .i1⟩
  | 62 => ⟨S256x16x16, .i1⟩
  | 63 => ⟨S256x16x16, .f32⟩
  | 64 => ⟨S256x16x16, .f32⟩
  | 65 => ⟨S256x16x16, .f32⟩
  | 66 => ⟨S_, .f32⟩
  | 67 => ⟨S256x16x16, .f32⟩
  | 68 => ⟨S256x16x16, .f32⟩
  | 69 => ⟨S256x16x16, .f32⟩
  | 70 => ⟨S_, .f32⟩
  | 71 => ⟨S256, .f32⟩
  | 72 => ⟨S256x1x1, .f32⟩
  | 73 => ⟨S_, .f32⟩
  | 74 => ⟨S256x1x1, .f32⟩
  | 75 => ⟨S256x1x1, .f32⟩
  | 76 => ⟨S256x16x16, .f32⟩
  | 77 => ⟨S256x16x16, .f32⟩
  | 78 => ⟨S_, .f32⟩
  | 79 => ⟨S256, .f32⟩
  | 80 => ⟨S256x1x1, .f32⟩
  | 81 => ⟨S_, .f32⟩
  | 82 => ⟨S256x1x1, .f32⟩
  | 83 => ⟨S256x1x1, .f32⟩
  | 84 => ⟨S256x16x16, .f32⟩
  | 85 => ⟨S256x16x16, .f32⟩
  | 86 => ⟨S256x16x16x1, .f32⟩
  | 87 => ⟨S256x16x16x1, .f32⟩
  | 88 => ⟨S256x16x16x2, .f32⟩
  | 89 => ⟨S_, .i32⟩
  | 90 => ⟨S_, .f32⟩
  | 91 => ⟨S256, .f32⟩
  | 92 => ⟨S256x1x1x1, .f32⟩
  | 93 => ⟨S_, .f32⟩
  | 94 => ⟨S256x1x1x1, .f32⟩
  | 95 => ⟨S256x1x1x1, .f32⟩
  | 96 => ⟨S256x16x16x2, .f32⟩
  | 97 => ⟨S256x16x16x2, .f32⟩
  | 98 => ⟨S256x16x16x2, .f32⟩
  | 99 => ⟨S_, .f32⟩
  | 100 => ⟨S_, .f32⟩
  | 101 => ⟨S_, .f32⟩
  | 102 => ⟨S_, .f32⟩
  | 103 => ⟨S256, .f32⟩
  | 104 => ⟨S256, .f32⟩
  | 105 => ⟨S256, .f32⟩
  | 106 => ⟨S_, .f32⟩
  | 107 => ⟨S_, .i1⟩
  | 108 => ⟨S_, .f32⟩
  | 109 => ⟨S_, .f32⟩
  | 110 => ⟨S256, .f32⟩
  | 111 => ⟨S256, .f32⟩
  | 112 => ⟨S256, .f32⟩
  | 113 => ⟨S256x1x1, .f32⟩
  | 114 => ⟨S256x16x16, .f32⟩
  | 115 => ⟨S256x16x16, .f32⟩
  | 116 => ⟨S256x16x16, .f32⟩
  | 117 => ⟨S256x16x16, .f32⟩
  | 118 => ⟨S32, .f32⟩
  | 119 => ⟨S_, .f32⟩
  | 120 => ⟨S32, .f32⟩
  | 121 => ⟨S32, .f32⟩
  | 122 => ⟨S32, .f32⟩
  | 123 => ⟨S256x16x16x1, .f32⟩
  | 124 => ⟨S1x1x1x32, .f32⟩
  | 125 => ⟨S256x16x16x32, .f32⟩
  | 126 => ⟨S256x16x16x32, .f32⟩
  | 127 => ⟨S256x16x16x32, .f32⟩
  | _ => ⟨S256x16x64x64, .f32⟩

abbrev hbmTy0_3 (i : Nat) : BufTy := match i % 128 with
  | 0 => ⟨S256x16x16x32, .f32⟩
  | 1 => ⟨S256x16x16x32, .f32⟩
  | 2 => ⟨S256x16x16x64, .f32⟩
  | 3 => ⟨S32, .f32⟩
  | 4 => ⟨S_, .f32⟩
  | 5 => ⟨S32, .f32⟩
  | 6 => ⟨S32, .f32⟩
  | 7 => ⟨S32, .f32⟩
  | 8 => ⟨S256x16x16x1, .f32⟩
  | 9 => ⟨S1x1x1x32, .f32⟩
  | 10 => ⟨S256x16x16x32, .f32⟩
  | 11 => ⟨S256x16x16x32, .f32⟩
  | 12 => ⟨S256x16x16x32, .f32⟩
  | 13 => ⟨S256x16x16x32, .f32⟩
  | 14 => ⟨S256x16x16x32, .f32⟩
  | 15 => ⟨S256x16x16x64, .f32⟩
  | 16 => ⟨S256x16x16x128, .f32⟩
  | 17 => ⟨S256x16x16x1, .f32⟩
  | 18 => ⟨S256x16x16x128, .f32⟩
  | 19 => ⟨S256x16x16x128, .f32⟩
  | 20 => ⟨S1x16x1x128, .f32⟩
  | 21 => ⟨S256x16x16x128, .f32⟩
  | 22 => ⟨S256x16x16x128, .f32⟩
  | 23 => ⟨S256x16x16x128, .f32⟩
  | _ => ⟨S256x16x64x64, .f32⟩

abbrev hbmTy (i : Nat) : BufTy := match i / 128 with
  | 0 => hbmTy0_0 i
  | 1 => hbmTy0_1 i
  | 2 => hbmTy0_2 i
  | 3 => hbmTy0_3 i
  | _ => ⟨S256x16x64x64, .f32⟩

abbrev bufTy : (tb : Table) → Fin (tcTables nBuf tb) → BufTy
  | .hbm, ⟨i, _⟩ => hbmTy i
  | _, _ => ⟨S256x16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_call1_v0 : Ref sig .tc := ⟨.hbm, 17, rfl⟩
abbrev main_call1_v1 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_call2_v0 : Ref sig .tc := ⟨.hbm, 22, rfl⟩
abbrev main_call2_v1 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_6 : Ref sig .tc := ⟨.hbm, 36, rfl⟩
abbrev main_v20 : Ref sig .tc := ⟨.hbm, 37, rfl⟩
abbrev main_c_7 : Ref sig .tc := ⟨.hbm, 38, rfl⟩
abbrev main_v21 : Ref sig .tc := ⟨.hbm, 39, rfl⟩
abbrev main_v22 : Ref sig .tc := ⟨.hbm, 40, rfl⟩
abbrev main_c_8 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_9 : Ref sig .tc := ⟨.hbm, 45, rfl⟩
abbrev main_v26 : Ref sig .tc := ⟨.hbm, 46, rfl⟩
abbrev main_v27 : Ref sig .tc := ⟨.hbm, 47, rfl⟩
abbrev main_c_10 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_11 : Ref sig .tc := ⟨.hbm, 54, rfl⟩
abbrev main_v33 : Ref sig .tc := ⟨.hbm, 55, rfl⟩
abbrev main_v34 : Ref sig .tc := ⟨.hbm, 56, rfl⟩
abbrev main_c_12 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_13 : Ref sig .tc := ⟨.hbm, 63, rfl⟩
abbrev main_v40 : Ref sig .tc := ⟨.hbm, 64, rfl⟩
abbrev main_v41 : Ref sig .tc := ⟨.hbm, 65, rfl⟩
abbrev main_c_14 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_15 : Ref sig .tc := ⟨.hbm, 72, rfl⟩
abbrev main_v47 : Ref sig .tc := ⟨.hbm, 73, rfl⟩
abbrev main_v48 : Ref sig .tc := ⟨.hbm, 74, rfl⟩
abbrev main_c_16 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_17 : Ref sig .tc := ⟨.hbm, 80, rfl⟩
abbrev main_v53 : Ref sig .tc := ⟨.hbm, 81, rfl⟩
abbrev main_v54 : Ref sig .tc := ⟨.hbm, 82, rfl⟩
abbrev main_c_18 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_19 : Ref sig .tc := ⟨.hbm, 87, rfl⟩
abbrev main_v58 : Ref sig .tc := ⟨.hbm, 88, rfl⟩
abbrev main_v59 : Ref sig .tc := ⟨.hbm, 89, rfl⟩
abbrev main_c_20 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_21 : Ref sig .tc := ⟨.hbm, 96, rfl⟩
abbrev main_v65 : Ref sig .tc := ⟨.hbm, 97, rfl⟩
abbrev main_v66 : Ref sig .tc := ⟨.hbm, 98, rfl⟩
abbrev main_c_22 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_23 : Ref sig .tc := ⟨.hbm, 105, rfl⟩
abbrev main_v72 : Ref sig .tc := ⟨.hbm, 106, rfl⟩
abbrev main_v73 : Ref sig .tc := ⟨.hbm, 107, rfl⟩
abbrev main_c_24 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_25 : Ref sig .tc := ⟨.hbm, 114, rfl⟩
abbrev main_v79 : Ref sig .tc := ⟨.hbm, 115, rfl⟩
abbrev main_v80 : Ref sig .tc := ⟨.hbm, 116, rfl⟩
abbrev main_c_26 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c_27 : Ref sig .tc := ⟨.hbm, 122, rfl⟩
abbrev main_v85 : Ref sig .tc := ⟨.hbm, 123, rfl⟩
abbrev main_v86 : Ref sig .tc := ⟨.hbm, 124, rfl⟩
abbrev main_c_28 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_c_29 : Ref sig .tc := ⟨.hbm, 129, rfl⟩
abbrev main_v90 : Ref sig .tc := ⟨.hbm, 130, rfl⟩
abbrev main_v91 : Ref sig .tc := ⟨.hbm, 131, rfl⟩
abbrev main_c_30 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_c_31 : Ref sig .tc := ⟨.hbm, 138, rfl⟩
abbrev main_v97 : Ref sig .tc := ⟨.hbm, 139, rfl⟩
abbrev main_v98 : Ref sig .tc := ⟨.hbm, 140, rfl⟩
abbrev main_c_32 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_c_33 : Ref sig .tc := ⟨.hbm, 147, rfl⟩
abbrev main_v104 : Ref sig .tc := ⟨.hbm, 148, rfl⟩
abbrev main_v105 : Ref sig .tc := ⟨.hbm, 149, rfl⟩
abbrev main_c_34 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_c_35 : Ref sig .tc := ⟨.hbm, 156, rfl⟩
abbrev main_v111 : Ref sig .tc := ⟨.hbm, 157, rfl⟩
abbrev main_v112 : Ref sig .tc := ⟨.hbm, 158, rfl⟩
abbrev main_c_36 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_c_37 : Ref sig .tc := ⟨.hbm, 164, rfl⟩
abbrev main_v117 : Ref sig .tc := ⟨.hbm, 165, rfl⟩
abbrev main_v118 : Ref sig .tc := ⟨.hbm, 166, rfl⟩
abbrev main_c_38 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_c_39 : Ref sig .tc := ⟨.hbm, 171, rfl⟩
abbrev main_v122 : Ref sig .tc := ⟨.hbm, 172, rfl⟩
abbrev main_v123 : Ref sig .tc := ⟨.hbm, 173, rfl⟩
abbrev main_c_40 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_c_41 : Ref sig .tc := ⟨.hbm, 180, rfl⟩
abbrev main_v129 : Ref sig .tc := ⟨.hbm, 181, rfl⟩
abbrev main_v130 : Ref sig .tc := ⟨.hbm, 182, rfl⟩
abbrev main_c_42 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_c_43 : Ref sig .tc := ⟨.hbm, 189, rfl⟩
abbrev main_v136 : Ref sig .tc := ⟨.hbm, 190, rfl⟩
abbrev main_v137 : Ref sig .tc := ⟨.hbm, 191, rfl⟩
abbrev main_c_44 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_c_45 : Ref sig .tc := ⟨.hbm, 198, rfl⟩
abbrev main_v143 : Ref sig .tc := ⟨.hbm, 199, rfl⟩
abbrev main_v144 : Ref sig .tc := ⟨.hbm, 200, rfl⟩
abbrev main_c_46 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_c_47 : Ref sig .tc := ⟨.hbm, 206, rfl⟩
abbrev main_v149 : Ref sig .tc := ⟨.hbm, 207, rfl⟩
abbrev main_v150 : Ref sig .tc := ⟨.hbm, 208, rfl⟩
abbrev main_c_48 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_c_49 : Ref sig .tc := ⟨.hbm, 213, rfl⟩
abbrev main_v154 : Ref sig .tc := ⟨.hbm, 214, rfl⟩
abbrev main_v155 : Ref sig .tc := ⟨.hbm, 215, rfl⟩
abbrev main_c_50 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_c_51 : Ref sig .tc := ⟨.hbm, 222, rfl⟩
abbrev main_v161 : Ref sig .tc := ⟨.hbm, 223, rfl⟩
abbrev main_v162 : Ref sig .tc := ⟨.hbm, 224, rfl⟩
abbrev main_c_52 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_c_53 : Ref sig .tc := ⟨.hbm, 231, rfl⟩
abbrev main_v168 : Ref sig .tc := ⟨.hbm, 232, rfl⟩
abbrev main_v169 : Ref sig .tc := ⟨.hbm, 233, rfl⟩
abbrev main_c_54 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_c_55 : Ref sig .tc := ⟨.hbm, 240, rfl⟩
abbrev main_v175 : Ref sig .tc := ⟨.hbm, 241, rfl⟩
abbrev main_v176 : Ref sig .tc := ⟨.hbm, 242, rfl⟩
abbrev main_c_56 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_c_57 : Ref sig .tc := ⟨.hbm, 248, rfl⟩
abbrev main_v181 : Ref sig .tc := ⟨.hbm, 249, rfl⟩
abbrev main_v182 : Ref sig .tc := ⟨.hbm, 250, rfl⟩
abbrev main_c_58 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_c_59 : Ref sig .tc := ⟨.hbm, 255, rfl⟩
abbrev main_v186 : Ref sig .tc := ⟨.hbm, 256, rfl⟩
abbrev main_v187 : Ref sig .tc := ⟨.hbm, 257, rfl⟩
abbrev main_c_60 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_cst_61 : Ref sig .tc := ⟨.hbm, 262, rfl⟩
abbrev main_v191 : Ref sig .tc := ⟨.hbm, 263, rfl⟩
abbrev main_v192 : Ref sig .tc := ⟨.hbm, 264, rfl⟩
abbrev main_cst_62 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_values : Ref sig .tc := ⟨.hbm, 275, rfl⟩
abbrev main_indices : Ref sig .tc := ⟨.hbm, 276, rfl⟩
abbrev main_v202 : Ref sig .tc := ⟨.hbm, 277, rfl⟩
abbrev main_v203 : Ref sig .tc := ⟨.hbm, 278, rfl⟩
abbrev main_call3_c : Ref sig .tc := ⟨.hbm, 279, rfl⟩
abbrev main_call3_v0 : Ref sig .tc := ⟨.hbm, 280, rfl⟩
abbrev main_call3_v1 : Ref sig .tc := ⟨.hbm, 281, rfl⟩
abbrev main_call3_c_0 : Ref sig .tc := ⟨.hbm, 282, rfl⟩
abbrev main_call3_v2 : Ref sig .tc := ⟨.hbm, 283, rfl⟩
abbrev main_call3_v3 : Ref sig .tc := ⟨.hbm, 284, rfl⟩
abbrev main_call3_v4 : Ref sig .tc := ⟨.hbm, 285, rfl⟩
abbrev main_call3_v5 : Ref sig .tc := ⟨.hbm, 286, rfl⟩
abbrev main_call3_c_1 : Ref sig .tc := ⟨.hbm, 287, rfl⟩
abbrev main_call3_c_2 : Ref sig .tc := ⟨.hbm, 288, rfl⟩
abbrev main_call3_v6 : Ref sig .tc := ⟨.hbm, 289, rfl⟩
abbrev main_call3_v7 : Ref sig .tc := ⟨.hbm, 290, rfl⟩
abbrev main_call3_v8 : Ref sig .tc := ⟨.hbm, 291, rfl⟩
abbrev main_call3_v9 : Ref sig .tc := ⟨.hbm, 292, rfl⟩
abbrev main_call3_v10 : Ref sig .tc := ⟨.hbm, 293, rfl⟩
abbrev main_call3_v11 : Ref sig .tc := ⟨.hbm, 294, rfl⟩
abbrev main_call3_c_3 : Ref sig .tc := ⟨.hbm, 295, rfl⟩
abbrev main_call3_v12 : Ref sig .tc := ⟨.hbm, 296, rfl⟩
abbrev main_call3_v13 : Ref sig .tc := ⟨.hbm, 297, rfl⟩
abbrev main_call3_cst : Ref sig .tc := ⟨.hbm, 298, rfl⟩
abbrev main_call3_v14 : Ref sig .tc := ⟨.hbm, 299, rfl⟩
abbrev main_v204 : Ref sig .tc := ⟨.hbm, 300, rfl⟩
abbrev main_v205 : Ref sig .tc := ⟨.hbm, 301, rfl⟩
abbrev main_v206 : Ref sig .tc := ⟨.hbm, 302, rfl⟩
abbrev main_v207 : Ref sig .tc := ⟨.hbm, 303, rfl⟩
abbrev main_cst_63 : Ref sig .tc := ⟨.hbm, 304, rfl⟩
abbrev main_call4_v0 : Ref sig .tc := ⟨.hbm, 305, rfl⟩
abbrev main_call4_v1 : Ref sig .tc := ⟨.hbm, 306, rfl⟩
abbrev main_call4_v2 : Ref sig .tc := ⟨.hbm, 307, rfl⟩
abbrev main_call4_cst : Ref sig .tc := ⟨.hbm, 308, rfl⟩
abbrev main_call4_v3 : Ref sig .tc := ⟨.hbm, 309, rfl⟩
abbrev main_call4_v4 : Ref sig .tc := ⟨.hbm, 310, rfl⟩
abbrev main_call4_cst_0 : Ref sig .tc := ⟨.hbm, 311, rfl⟩
abbrev main_call4_v5 : Ref sig .tc := ⟨.hbm, 312, rfl⟩
abbrev main_call4_v6 : Ref sig .tc := ⟨.hbm, 313, rfl⟩
abbrev main_call4_cst_1 : Ref sig .tc := ⟨.hbm, 314, rfl⟩
abbrev main_call4_v7 : Ref sig .tc := ⟨.hbm, 315, rfl⟩
abbrev main_call4_v8 : Ref sig .tc := ⟨.hbm, 316, rfl⟩
abbrev main_call4_v9 : Ref sig .tc := ⟨.hbm, 317, rfl⟩
abbrev main_call4_v10 : Ref sig .tc := ⟨.hbm, 318, rfl⟩
abbrev main_call4_v11 : Ref sig .tc := ⟨.hbm, 319, rfl⟩
abbrev main_call4_v12 : Ref sig .tc := ⟨.hbm, 320, rfl⟩
abbrev main_v208 : Ref sig .tc := ⟨.hbm, 321, rfl⟩
abbrev main_cst_64 : Ref sig .tc := ⟨.hbm, 322, rfl⟩
abbrev main_v209 : Ref sig .tc := ⟨.hbm, 323, rfl⟩
abbrev main_v210 : Ref sig .tc := ⟨.hbm, 324, rfl⟩
abbrev main_v211 : Ref sig .tc := ⟨.hbm, 325, rfl⟩
abbrev main_cst_65 : Ref sig .tc := ⟨.hbm, 326, rfl⟩
abbrev main_v212 : Ref sig .tc := ⟨.hbm, 327, rfl⟩
abbrev main_v213 : Ref sig .tc := ⟨.hbm, 328, rfl⟩
abbrev main_cst_66 : Ref sig .tc := ⟨.hbm, 329, rfl⟩
abbrev main_v214 : Ref sig .tc := ⟨.hbm, 330, rfl⟩
abbrev main_v215 : Ref sig .tc := ⟨.hbm, 331, rfl⟩
abbrev main_v216 : Ref sig .tc := ⟨.hbm, 332, rfl⟩
abbrev main_v217 : Ref sig .tc := ⟨.hbm, 333, rfl⟩
abbrev main_cst_67 : Ref sig .tc := ⟨.hbm, 334, rfl⟩
abbrev main_v218 : Ref sig .tc := ⟨.hbm, 335, rfl⟩
abbrev main_v219 : Ref sig .tc := ⟨.hbm, 336, rfl⟩
abbrev main_cst_68 : Ref sig .tc := ⟨.hbm, 337, rfl⟩
abbrev main_v220 : Ref sig .tc := ⟨.hbm, 338, rfl⟩
abbrev main_v221 : Ref sig .tc := ⟨.hbm, 339, rfl⟩
abbrev main_v222 : Ref sig .tc := ⟨.hbm, 340, rfl⟩
abbrev main_v223 : Ref sig .tc := ⟨.hbm, 341, rfl⟩
abbrev main_v224 : Ref sig .tc := ⟨.hbm, 342, rfl⟩
abbrev main_v225 : Ref sig .tc := ⟨.hbm, 343, rfl⟩
abbrev main_v226 : Ref sig .tc := ⟨.hbm, 344, rfl⟩
abbrev main_c_69 : Ref sig .tc := ⟨.hbm, 345, rfl⟩
abbrev main_call5_call0_cst : Ref sig .tc := ⟨.hbm, 346, rfl⟩
abbrev main_call5_call0_v0 : Ref sig .tc := ⟨.hbm, 347, rfl⟩
abbrev main_call5_call0_v1 : Ref sig .tc := ⟨.hbm, 348, rfl⟩
abbrev main_call5_call0_cst_0 : Ref sig .tc := ⟨.hbm, 349, rfl⟩
abbrev main_call5_call0_v2 : Ref sig .tc := ⟨.hbm, 350, rfl⟩
abbrev main_call5_call0_v3 : Ref sig .tc := ⟨.hbm, 351, rfl⟩
abbrev main_call5_call0_v4 : Ref sig .tc := ⟨.hbm, 352, rfl⟩
abbrev main_call5_call0_v5 : Ref sig .tc := ⟨.hbm, 353, rfl⟩
abbrev main_call5_call0_v6 : Ref sig .tc := ⟨.hbm, 354, rfl⟩
abbrev main_call5_call0_v7 : Ref sig .tc := ⟨.hbm, 355, rfl⟩
abbrev main_call5_call0_cst_1 : Ref sig .tc := ⟨.hbm, 356, rfl⟩
abbrev main_call5_call0_v8 : Ref sig .tc := ⟨.hbm, 357, rfl⟩
abbrev main_call5_call0_cst_2 : Ref sig .tc := ⟨.hbm, 358, rfl⟩
abbrev main_call5_call0_v9 : Ref sig .tc := ⟨.hbm, 359, rfl⟩
abbrev main_call5_call0_v10 : Ref sig .tc := ⟨.hbm, 360, rfl⟩
abbrev main_call5_call0_v11 : Ref sig .tc := ⟨.hbm, 361, rfl⟩
abbrev main_call5_call0_cst_3 : Ref sig .tc := ⟨.hbm, 362, rfl⟩
abbrev main_call5_call0_v12 : Ref sig .tc := ⟨.hbm, 363, rfl⟩
abbrev main_call5_call0_cst_4 : Ref sig .tc := ⟨.hbm, 364, rfl⟩
abbrev main_call5_call0_call0_v0 : Ref sig .tc := ⟨.hbm, 365, rfl⟩
abbrev main_call5_call0_call0_v1 : Ref sig .tc := ⟨.hbm, 366, rfl⟩
abbrev main_call5_v0 : Ref sig .tc := ⟨.hbm, 367, rfl⟩
abbrev main_v227 : Ref sig .tc := ⟨.hbm, 368, rfl⟩
abbrev main_v228 : Ref sig .tc := ⟨.hbm, 369, rfl⟩
abbrev main_v229 : Ref sig .tc := ⟨.hbm, 370, rfl⟩
abbrev main_v230 : Ref sig .tc := ⟨.hbm, 371, rfl⟩
abbrev main_v231 : Ref sig .tc := ⟨.hbm, 372, rfl⟩
abbrev main_v232 : Ref sig .tc := ⟨.hbm, 373, rfl⟩
abbrev main_v233 : Ref sig .tc := ⟨.hbm, 374, rfl⟩
abbrev main_cst_70 : Ref sig .tc := ⟨.hbm, 375, rfl⟩
abbrev main_v234 : Ref sig .tc := ⟨.hbm, 376, rfl⟩
abbrev main_v235 : Ref sig .tc := ⟨.hbm, 377, rfl⟩
abbrev main_v236 : Ref sig .tc := ⟨.hbm, 378, rfl⟩
abbrev main_v237 : Ref sig .tc := ⟨.hbm, 379, rfl⟩
abbrev main_v238 : Ref sig .tc := ⟨.hbm, 380, rfl⟩
abbrev main_v239 : Ref sig .tc := ⟨.hbm, 381, rfl⟩
abbrev main_v240 : Ref sig .tc := ⟨.hbm, 382, rfl⟩
abbrev main_v241 : Ref sig .tc := ⟨.hbm, 383, rfl⟩
abbrev main_v242 : Ref sig .tc := ⟨.hbm, 384, rfl⟩
abbrev main_v243 : Ref sig .tc := ⟨.hbm, 385, rfl⟩
abbrev main_v244 : Ref sig .tc := ⟨.hbm, 386, rfl⟩
abbrev main_v245 : Ref sig .tc := ⟨.hbm, 387, rfl⟩
abbrev main_cst_71 : Ref sig .tc := ⟨.hbm, 388, rfl⟩
abbrev main_v246 : Ref sig .tc := ⟨.hbm, 389, rfl⟩
abbrev main_v247 : Ref sig .tc := ⟨.hbm, 390, rfl⟩
abbrev main_v248 : Ref sig .tc := ⟨.hbm, 391, rfl⟩
abbrev main_v249 : Ref sig .tc := ⟨.hbm, 392, rfl⟩
abbrev main_v250 : Ref sig .tc := ⟨.hbm, 393, rfl⟩
abbrev main_v251 : Ref sig .tc := ⟨.hbm, 394, rfl⟩
abbrev main_v252 : Ref sig .tc := ⟨.hbm, 395, rfl⟩
abbrev main_v253 : Ref sig .tc := ⟨.hbm, 396, rfl⟩
abbrev main_v254 : Ref sig .tc := ⟨.hbm, 397, rfl⟩
abbrev main_v255 : Ref sig .tc := ⟨.hbm, 398, rfl⟩
abbrev main_v256 : Ref sig .tc := ⟨.hbm, 399, rfl⟩
abbrev main_v257 : Ref sig .tc := ⟨.hbm, 400, rfl⟩
abbrev main_v258 : Ref sig .tc := ⟨.hbm, 401, rfl⟩
abbrev main_v259 : Ref sig .tc := ⟨.hbm, 402, rfl⟩
abbrev main_v260 : Ref sig .tc := ⟨.hbm, 403, rfl⟩
abbrev main_v261 : Ref sig .tc := ⟨.hbm, 404, rfl⟩
abbrev main_v262 : Ref sig .tc := ⟨.hbm, 405, rfl⟩
abbrev main_v263 : Ref sig .tc := ⟨.hbm, 406, rfl⟩
abbrev main_v264 : Ref sig .tc := ⟨.hbm, 407, rfl⟩

abbrev nD : Nat := 1
abbrev τ : Topo := Topo.v7x

variable {F : FTy → Type} [FloatOps F]
-- ==== Proof.Block.lean ====
/- What one grid point of the kernel computes, written once for a sample number: the sixteen samples are sixteen
   instances of one definition, and the block the kernel stores is `block`. -/
module

public import proofs.«01_k».proof.Proof.Gen.KernelIdeal.Frame

@[expose] public section

noncomputable section

namespace Cert.Sampler

open Cert.KernelIdeal Cert.KernelIdeal.Gen Idealize.ShloMosaic

variable {F : FTy → Type} [FloatOps F]

/-- One round's second word: the old second word, rotated (left by `l`, which is right by `r`) and combined with the
    round's first word, the sum of both. -/
def mixed {s : Shape} (l r : BitVec 32) (x y : IVec s 32) : IVec s 32 :=
  xori (addi x y) (ori (shli y (broadcast s l)) (shrui y (broadcast s r)))

/-- One round of the cipher, handing its two words on to `next`. -/
def turn {s : Shape} (l r : BitVec 32) (x y : IVec s 32) (next : IVec s 32 → IVec s 32 → IVec s 32) : IVec s 32 :=
  next (addi x y) (mixed l r x y)

/-- The four rounds of an even group. -/
def evenTurns {s : Shape} (x y : IVec s 32) (next : IVec s 32 → IVec s 32 → IVec s 32) : IVec s 32 :=
  turn 13#32 19#32 x y fun x y => turn 15#32 17#32 x y fun x y => turn 26#32 6#32 x y fun x y => turn 6#32 26#32 x y next

/-- The four rounds of an odd group. -/
def oddTurns {s : Shape} (x y : IVec s 32) (next : IVec s 32 → IVec s 32 → IVec s 32) : IVec s 32 :=
  turn 17#32 15#32 x y fun x y => turn 29#32 3#32 x y fun x y => turn 16#32 16#32 x y fun x y => turn 24#32 8#32 x y next

/-- The key words added after a group of rounds, the group's number on its own. -/
def addKey {s : Shape} (a b n : BitVec 32) (x y : IVec s 32) (next : IVec s 32 → IVec s 32 → IVec s 32) : IVec s 32 :=
  next (addi x (broadcast s a)) (addi (addi y (broadcast s b)) (broadcast s n))

/-- The random words of the counters `cnt`, as the kernel computes them. -/
def randomWords {s : Shape} (cnt : IVec s 32) : IVec s 32 :=
  evenTurns (broadcast s 0#32) (addi cnt (broadcast s 42#32)) fun x y => addKey 42#32 466689008#32 1#32 x y fun x y =>
  oddTurns x y fun x y => addKey 466689008#32 0#32 2#32 x y fun x y =>
  evenTurns x y fun x y => addKey 0#32 42#32 3#32 x y fun x y =>
  oddTurns x y fun x y => addKey 42#32 466689008#32 4#32 x y fun x y =>
  evenTurns x y fun x y => addKey 466689008#32 0#32 5#32 x y fun x y => xori x y

/-- The Gumbel noise of random words, as the kernel computes it. -/
def noise {s : Shape} (bits : IVec s 32) : FVec F s .f32 :=
  let u := maximumf
    (subf (bitcastToFloat .f32 (ori (shrui bits (broadcast s 9#32)) (broadcast s 1065353216#32)))
      (broadcast s (Scalar.ofBits .f32 0x3F800000#32)))
    (broadcast s (Scalar.ofBits .f32 0x00800000#32))
  let zero : FVec F s .f32 := broadcast s (Scalar.ofBits .f32 0x00000000#32)
  subf zero (log (subf zero (log u)))

/-- The scores of one sample: the noise of its counters added to the logits. -/
def scores (logits : FVec F S16x4096 .f32) (cnt : IVec S16x4096 32) : FVec F S16x4096 .f32 :=
  addf (noise (randomWords cnt)) logits

/-- The first column at which a row's score equals the row's maximum. -/
def firstBest (score : FVec F S16x4096 .f32) : IVec S16x1 32 :=
  shapeCast S16x1
    (multiReductionI .minsi [1] S16
      (select
        (cmpf .oeq score
          (broadcastTo S16x4096
            (shapeCast S16x1 (multiReduction .maximumf [1] S16 score 0xFF800000#32 reduces_S16x4096_S16 (.inl rfl) rfl)
              shapeCasts_S16_S16x1)
            broadcasts_S16x1_S16x4096))
        (iota .tc S16x4096 32 [1] iota_S16x4096_d1_w32) (broadcast S16x4096 4096#32))
      2147483647#32 reduces_S16x4096_S16 rfl)
    shapeCasts_S16_S16x1

/-- The probability at the chosen column, as a row sum that keeps that column alone. -/
def probAt (probs : FVec F S16x4096 .f32) (idx : IVec S16x1 32) : FVec F S16x1 .f32 :=
  shapeCast S16x1
    (multiReduction .add [1] S16
      (select (cmpi .eq (iota .tc S16x4096 32 [1] iota_S16x4096_d1_w32) (broadcastTo S16x4096 idx broadcasts_S16x1_S16x4096))
        probs (broadcast S16x4096 (Scalar.ofBits .f32 0x00000000#32)))
      0x00000000#32 reduces_S16x4096_S16 (.inl rfl) rfl)
    shapeCasts_S16_S16x1

/-- The probabilities of a block: the heatmap with its negative entries at zero. -/
abbrev probs (x0 : Vec F S1x16x4096 .f32) : FVec F S16x4096 .f32 := k0_pay2 x0
/-- The logits of a block. -/
abbrev logits (x0 : Vec F S1x16x4096 .f32) : FVec F S16x4096 .f32 := k0_pay3 x0

/-- The columns sample number `n` draws, one for each row. -/
def draw (i : grid0.Coords) (x0 : Vec F S1x16x4096 .f32) (n : BitVec 32) : IVec S16x1 32 :=
  firstBest (scores (logits x0) (addi (k0_pay4 i) (broadcast S16x4096 n)))

/-- Sixteen columns side by side. -/
def columns (f : BitVec 32 → FVec F S16x1 .f32) : FVec F S16x16 .f32 :=
  concatenate S16x16 1
    [⟨S16x1, f 0#32⟩, ⟨S16x1, f 16777216#32⟩, ⟨S16x1, f 33554432#32⟩, ⟨S16x1, f 50331648#32⟩, ⟨S16x1, f 67108864#32⟩, ⟨S16x1, f 83886080#32⟩, ⟨S16x1, f 100663296#32⟩, ⟨S16x1, f 117440512#32⟩,
     ⟨S16x1, f 134217728#32⟩, ⟨S16x1, f 150994944#32⟩, ⟨S16x1, f 167772160#32⟩, ⟨S16x1, f 184549376#32⟩, ⟨S16x1, f 201326592#32⟩, ⟨S16x1, f 218103808#32⟩, ⟨S16x1, f 234881024#32⟩, ⟨S16x1, f 251658240#32⟩]
    concatenates_S16x1_S16x1_S16x1_S16x1_S16x1_S16x1_S16x1_S16x1_S16x1_S16x1_S16x1_S16x1_S16x1_S16x1_S16x1_S16x1_S16x16_d1

/-- The image columns of the drawn positions. -/
def xs (i : grid0.Coords) (x0 : Vec F S1x16x4096 .f32) : FVec F S16x16 .f32 :=
  columns fun n => k0_pay49 (draw i x0 n)
/-- The image rows of the drawn positions. -/
def ys (i : grid0.Coords) (x0 : Vec F S1x16x4096 .f32) : FVec F S16x16 .f32 :=
  columns fun n => k0_pay50 (draw i x0 n)
/-- The probabilities of the drawn positions. -/
def ps (i : grid0.Coords) (x0 : Vec F S1x16x4096 .f32) : FVec F S16x16 .f32 :=
  columns fun n => probAt (probs x0) (draw i x0 n)

/-- The total of a block of coordinates. -/
def total (v : FVec F S16x16 .f32) : F .f32 :=
  extractAt ![0, 0, 0]
    (shapeCast S1x1x1
      (multiReduction .add [1, 2] S1 (shapeCast S1x16x16 v shapeCasts_S16x16_S1x16x16) 0x00000000#32 reduces_S1x16x16_S1
        (.inl rfl) rfl)
      shapeCasts_S1_S1x1x1)
    inpos_S1x1x1_p0_0_0

/-- Coordinates less their mean. -/
def centred (v : FVec F S16x16 .f32) : FVec F S16x16 .f32 :=
  subf v (broadcast S16x16 (Scalar.divf (total v) (Scalar.ofBits .f32 0x43800000#32)))

/-- The sum of squared distances from `m`. -/
def squares (v : FVec F S16x16 .f32) (m : F .f32) : F .f32 :=
  total (mulf (subf v (broadcast S16x16 m)) (subf v (broadcast S16x16 m)))

/-- The standard deviation of all 512 centred coordinates, with 511 in the denominator. -/
def deviation (x y : FVec F S16x16 .f32) : F .f32 :=
  let m := Scalar.divf (Scalar.addf (total x) (total y)) (Scalar.ofBits .f32 0x44000000#32)
  Scalar.sqrt (Scalar.divf (Scalar.addf (squares x m) (squares y m)) (Scalar.ofBits .f32 0x43FF8000#32))

/-- The angles: a coordinate over the deviation times a frequency, the first 64 lanes from the image columns `x`, the
    others from the image rows `y`. -/
def angles (x y : FVec F S16x16 .f32) (x2 : Vec F S1x128 .f32) : FVec F S16x16x128 .f32 :=
  let lanes (v : FVec F S16x16 .f32) : FVec F S16x16x128 .f32 :=
    broadcastTo S16x16x128
      (shapeCast S16x16x1 (shapeCast S16x16x1 (divf v (broadcast S16x16 (deviation x y))) shapeCasts_S16x16_S16x16x1)
        shapeCasts_S16x16x1_S16x16x1)
      broadcasts_S16x16x1_S16x16x128
  mulf
    (select (cmpi .slt (iota .tc S16x16x128 32 [2] iota_S16x16x128_d2_w32) (broadcast S16x16x128 64#32)) (lanes x) (lanes y))
    (broadcastTo S16x16x128
      (shapeCast S1x1x128 (shapeCast S1x128 x2 shapeCasts_S1x128_S1x128) shapeCasts_S1x128_S1x1x128)
      broadcasts_S1x1x128_S16x16x128)

/-- The block one grid point stores, from the block `x0` of the heatmap, the joint table `x1` and the frequencies `x2`:
    the centred coordinates divided by their deviation, times the frequencies, under sine or cosine, times the
    probabilities, plus the joint table. -/
def block (i : grid0.Coords) (x0 : Vec F S1x16x4096 .f32) (x1 : Vec F S16x128 .f32) (x2 : Vec F S1x128 .f32) :
    FVec F S1x16x16x128 .f32 :=
  k0_pay1
    (k0_pay776 (ps i x0) (iota .tc S16x16x128 32 [2] iota_S16x16x128_d2_w32) (angles (centred (xs i x0)) (centred (ys i x0)) x2))
    (k0_pay777 x1)

/-- The kernel's output block is `block` of the loaded input blocks. -/
theorem out_eq (i : grid0.Coords) (x0 : Vec F S1x16x4096 .f32) (x1 : Vec F S16x128 .f32) (x2 : Vec F S1x128 .f32) :
    out0_3 i x0 x1 x2 = View.canon [⟨r0_3, block i (View.ld x0 r0_0) (View.ld x1 r0_2) (View.ld x2 r0_1)⟩] := rfl

end Cert.Sampler

end
-- ==== Proof.Words.lean ====
/- The random words, one element at a time: the cipher as a function of one counter, the kernel's vectors of words and
   the reference's read as its values. -/
module

public import proofs.«01_k».proof.Proof.Block
public import proofs.«01_k».proof.Proof.Gen.ReferenceIdeal.Read

@[expose] public section

noncomputable section

namespace Cert.Sampler

open Idealize.ShloMosaic

/-- A function of two words with a word for its value: what a group of rounds hands its two words on to. -/
abbrev Next := BitVec 32 → BitVec 32 → BitVec 32

/-- One round on two words. -/
def turnW (l r x y : BitVec 32) (next : Next) : BitVec 32 :=
  next (IntOp.addi x y) (IntOp.xori (IntOp.addi x y) (IntOp.ori (IntOp.shli .host y l) (IntOp.shrui .host y r)))

/-- The four rounds of an even group on two words. -/
def evenTurnsW (x y : BitVec 32) (next : Next) : BitVec 32 :=
  turnW 13#32 19#32 x y fun x y => turnW 15#32 17#32 x y fun x y => turnW 26#32 6#32 x y fun x y => turnW 6#32 26#32 x y next

/-- The four rounds of an odd group on two words. -/
def oddTurnsW (x y : BitVec 32) (next : Next) : BitVec 32 :=
  turnW 17#32 15#32 x y fun x y => turnW 29#32 3#32 x y fun x y => turnW 16#32 16#32 x y fun x y => turnW 24#32 8#32 x y next

/-- The key words added after a group, the group's number and the second key word as one word. -/
def addKeyW (a b n x y : BitVec 32) (next : Next) : BitVec 32 :=
  next (IntOp.addi x a) (IntOp.addi y (IntOp.addi b n))

/-- The random word of one counter. -/
def wordAt (c : BitVec 32) : BitVec 32 :=
  evenTurnsW 0#32 (IntOp.addi c 42#32) fun x y => addKeyW 42#32 466689008#32 1#32 x y fun x y =>
  oddTurnsW x y fun x y => addKeyW 466689008#32 0#32 2#32 x y fun x y =>
  evenTurnsW x y fun x y => addKeyW 0#32 42#32 3#32 x y fun x y =>
  oddTurnsW x y fun x y => addKeyW 42#32 466689008#32 4#32 x y fun x y =>
  evenTurnsW x y fun x y => addKeyW 466689008#32 0#32 5#32 x y fun x y => IntOp.xori x y

section Vectors
variable {s : Shape} {j : s.Idx} {next : IVec s 32 → IVec s 32 → IVec s 32} {next' : Next}

/-- A vector round at an index is the round on the words there, as amounts below 32 shift alike on either unit. -/
theorem turn_apply (l r : BitVec 32) (hl : l.toNat < 32) (hr : r.toNat < 32)
    (h : ∀ x y, next x y j = next' (x j) (y j)) (x y : IVec s 32) : turn l r x y next j = turnW l r (x j) (y j) next' := by

  rw [turn, h, turnW]
  show next' (IntOp.addi (x j) (y j))
      (IntOp.xori (IntOp.addi (x j) (y j)) (IntOp.ori (IntOp.shli .vector (y j) l) (IntOp.shrui .vector (y j) r))) = _
  simp only [IntOp.shli, IntOp.shrui, hl, hr, if_true]

/-- An even group of rounds, at an index, is the group on the words there. -/
theorem evenTurns_apply (h : ∀ x y, next x y j = next' (x j) (y j)) (x y : IVec s 32) :
    evenTurns x y next j = evenTurnsW (x j) (y j) next' :=
  turn_apply 13#32 19#32 (by decide) (by decide) (turn_apply 15#32 17#32 (by decide) (by decide)
    (turn_apply 26#32 6#32 (by decide) (by decide) (turn_apply 6#32 26#32 (by decide) (by decide) h))) x y

/-- An odd group of rounds, at an index, is the group on the words there. -/
theorem oddTurns_apply (h : ∀ x y, next x y j = next' (x j) (y j)) (x y : IVec s 32) :
    oddTurns x y next j = oddTurnsW (x j) (y j) next' :=
  turn_apply 17#32 15#32 (by decide) (by decide) (turn_apply 29#32 3#32 (by decide) (by decide)
    (turn_apply 16#32 16#32 (by decide) (by decide) (turn_apply 24#32 8#32 (by decide) (by decide) h))) x y

/-- The key's addition, at an index, is the addition on the words there. -/
theorem addKey_apply (a b n : BitVec 32) (h : ∀ x y, next x y j = next' (x j) (y j)) (x y : IVec s 32) :
    addKey a b n x y next j = addKeyW a b n (x j) (y j) next' := by
  rw [addKey, h, addKeyW]
  exact congrArg (next' _) (BitVec.add_assoc (y j) b n)

end Vectors

/-- The kernel's random words, element by element. -/
theorem randomWords_apply {s : Shape} (cnt : IVec s 32) (j : s.Idx) : randomWords cnt j = wordAt (cnt j) :=
  evenTurns_apply (addKey_apply _ _ _ (oddTurns_apply (addKey_apply _ _ _ (evenTurns_apply (addKey_apply _ _ _
    (oddTurns_apply (addKey_apply _ _ _ (evenTurns_apply (addKey_apply _ _ _ fun _ _ => rfl))))))))) _ _

open Cert.ReferenceIdeal Cert.ReferenceIdeal.Gen Cert.ReferenceIdeal.Read in
/-- The reference's random words, element by element. -/
theorem refWords_apply {F : FTy → Type} [FloatOps F] (i : S16x4096x4096.Idx) :
    val_main_v185 (F := F) i = wordAt (val_main_v19 (F := F) i) := rfl

end Cert.Sampler

end
-- ==== Proof.FirstMax.lean ====
/- The first greatest entry of a row: it exists, it is unique, a row minimum of matching columns finds it, and a stable
   descending sort puts it at position 0. -/
module

public import proofs.«01_k».proof.Proof.Block
public import Idealize.ShloMosaic.Lib.Pointwise

@[expose] public section

set_option maxRecDepth 16384

noncomputable section

namespace Cert.Sampler

open Idealize.ShloMosaic

variable {n : Nat}

/-- `k` is the first position at which `f` is greatest. -/
def IsFirstMax (f : Fin n → EReal) (k : Fin n) : Prop := (∀ c, f c ≤ f k) ∧ ∀ c, c < k → f c < f k

/-- Every function on `n + 1` positions has one. -/
theorem exists_isFirstMax (f : Fin (n + 1) → EReal) : ∃ k, IsFirstMax f k := by
  obtain ⟨m, -, hm⟩ := Finset.exists_max_image Finset.univ f ⟨0, Finset.mem_univ 0⟩
  have hne : (Finset.univ.filter fun k => f m ≤ f k).Nonempty := ⟨m, by simp⟩
  obtain ⟨k, hk, hmin⟩ := Finset.exists_min_image _ (fun k : Fin (n + 1) => k) hne
  have hmk : f m ≤ f k := (Finset.mem_filter.mp hk).2
  refine ⟨k, fun c => (hm c (Finset.mem_univ c)).trans hmk, fun c hck => ?_⟩
  by_contra hc
  have : k ≤ c := hmin c (Finset.mem_filter.mpr ⟨Finset.mem_univ c, hmk.trans (not_lt.mp hc)⟩)
  exact absurd hck (not_lt.mpr this)

/-- A function has at most one. -/
theorem IsFirstMax.unique {f : Fin n → EReal} {k k' : Fin n} (h : IsFirstMax f k) (h' : IsFirstMax f k') : k = k' := by
  rcases lt_trichotomy k k' with hlt | he | hgt
  · exact absurd (h'.2 k hlt) (not_lt.mpr (h.1 k'))
  · exact he
  · exact absurd (h.2 k' hgt) (not_lt.mpr (h'.1 k))

/-- The position of the first greatest entry. -/
def firstMax (f : Fin (n + 1) → EReal) : Fin (n + 1) := (exists_isFirstMax f).choose

/-- `firstMax` is the first greatest entry. -/
theorem isFirstMax_firstMax (f : Fin (n + 1) → EReal) : IsFirstMax f (firstMax f) := (exists_isFirstMax f).choose_spec

/-! ## By two reductions -/

/-- A maximum over all positions from the least start is the entry at the first greatest. -/
theorem IsFirstMax.fold_max {f : Fin n → EReal} {k : Fin n} (h : IsFirstMax f k) :
    Finset.univ.fold max ⊥ f = f k :=
  le_antisymm (Finset.fold_max_le _ |>.mpr ⟨bot_le, fun c _ => h.1 c⟩)
    (Finset.le_fold_max _ |>.mpr (Or.inr ⟨k, Finset.mem_univ k, le_rfl⟩))

/-- The lesser of two words, read as signed integers, is the lesser of the integers. -/
theorem toInt_minsi (a b : BitVec 32) : (IntOp.minsi a b).toInt = min a.toInt b.toInt := by
  show (if a.slt b then a else b).toInt = _
  rcases lt_or_ge a.toInt b.toInt with h | h
  · simp [BitVec.slt, h, h.le]
  · simp [BitVec.slt, not_lt.mpr h, h]

/-- A signed minimum from a start no less than `v`, of words no less than `v` one of which is `v`, is `v`. -/
theorem fold_minsi_eq {ι : Type} [DecidableEq ι] (s : Finset ι) (g : ι → BitVec 32) (init v : BitVec 32)
    (h0 : v.toInt ≤ init.toInt) (hle : ∀ i ∈ s, v.toInt ≤ (g i).toInt) (hv : ∃ i ∈ s, g i = v) :
    s.fold IntOp.minsi init g = v := by
  have key : ∀ t : Finset ι, t ⊆ s → v.toInt ≤ (t.fold IntOp.minsi init g).toInt ∧
      ∀ i ∈ t, (t.fold IntOp.minsi init g).toInt ≤ (g i).toInt := by
    intro t
    induction t using Finset.induction_on with
    | empty => exact fun _ => ⟨h0, fun i hi => absurd hi (Finset.notMem_empty i)⟩
    | insert a t ha ih =>
      intro hs
      obtain ⟨i1, i2⟩ := ih ((Finset.subset_insert a t).trans hs)
      rw [Finset.fold_insert ha, toInt_minsi]
      refine ⟨le_min (hle a (hs (Finset.mem_insert_self a t))) i1, fun i hi => ?_⟩
      rcases Finset.mem_insert.mp hi with rfl | hi
      · exact min_le_left _ _
      · exact (min_le_right _ _).trans (i2 i hi)
  obtain ⟨i, hi, rfl⟩ := hv
  obtain ⟨k1, k2⟩ := key s (Finset.Subset.refl s)
  exact BitVec.eq_of_toInt_eq (le_antisymm (k2 i hi) k1)

/-- The word of a position below 4096, read signed. -/
theorem toInt_ofNat_fin (k : Fin 4096) : (BitVec.ofNat 32 k.val).toInt = k.val := by
  have := k.isLt
  rw [BitVec.toInt_eq_toNat_of_lt (by rw [BitVec.toNat_ofNat]; omega), BitVec.toNat_ofNat]; omega

open Cert.KernelIdeal Cert.KernelIdeal.Gen in
/-- The kernel's two reductions find the first greatest entry of a row. -/
theorem firstBest_apply (score : FVec Ideal S16x4096 .f32) (r : Fin 16) :
    firstBest score (ix2 r 0) = BitVec.ofNat 32 (firstMax fun c : Fin 4096 => score (ix2 r c)).val := by
  have h := isFirstMax_firstMax fun c : Fin 4096 => score (ix2 r c)
  generalize firstMax (fun c : Fin 4096 => score (ix2 r c)) = k at h ⊢
  have hbot : Ideal.ofBits FTy.f32 4286578688#32 = ⊥ := by
    simp [Ideal.ofBits, Ideal.ieee]
  pointwise [firstBest]
  rw [hbot, h.fold_max]
  have := k.isLt
  refine fold_minsi_eq _ _ _ _ ?_ (fun c _ => ?_) ⟨k, Finset.mem_univ k, if_pos rfl⟩
  · rw [toInt_ofNat_fin]; show (k.val : Int) ≤ 2147483647; omega
  · rw [toInt_ofNat_fin]
    split
    · next hc =>
      rw [toInt_ofNat_fin]
      have : k ≤ c := not_lt.mp fun hck => absurd (h.2 c hck) (by simpa using hc.ge)
      exact_mod_cast this
    · show (k.val : Int) ≤ 4096; omega

/-! ## By a stable sort -/

/-- The comparator of a descending sort on positions. -/
abbrev above (f : Fin n → EReal) : Fin n → Fin n → Bool := fun k k' => decide (f k' < f k)

/-- The head of the stable descending sort of an increasing list of positions is its first greatest entry. -/
theorem head_stableSort (f : Fin n → EReal) : ∀ (a : Fin n) (l : List (Fin n)), (a :: l).Pairwise (· < ·) →
    ∃ h t, stableSort (above f) (a :: l) = h :: t ∧ h ∈ a :: l ∧ (∀ c ∈ a :: l, f c ≤ f h) ∧ ∀ c ∈ a :: l, c < h → f c < f h
  | a, [], _ => ⟨a, [], rfl, List.mem_singleton.mpr rfl, fun c hc => by rw [List.mem_singleton.mp hc],
      fun c hc hlt => by rw [List.mem_singleton.mp hc] at hlt; exact absurd hlt (lt_irrefl a)⟩
  | a, b :: l, hp => by
    obtain ⟨ha, hl⟩ := List.pairwise_cons.mp hp
    obtain ⟨h, t, e, hm, hmax, hfirst⟩ := head_stableSort f b l hl
    have e' : stableSort (above f) (a :: b :: l) = insertBefore (above f) a (h :: t) := congrArg _ e
    rw [e', insertBefore]
    by_cases hlt : f a < f h
    · rw [if_pos (decide_eq_true hlt)]
      refine ⟨h, _, rfl, List.mem_cons_of_mem a hm, fun c hc => ?_, fun c hc hch => ?_⟩
      · rcases List.mem_cons.mp hc with rfl | hc
        · exact hlt.le
        · exact hmax c hc
      · rcases List.mem_cons.mp hc with rfl | hc
        · exact hlt
        · exact hfirst c hc hch
    · rw [if_neg (by simpa using hlt)]
      refine ⟨a, _, rfl, List.mem_cons_self, fun c hc => ?_, fun c hc hca => ?_⟩
      · rcases List.mem_cons.mp hc with rfl | hc
        · exact le_rfl
        · exact (hmax c hc).trans (not_lt.mp hlt)
      · rcases List.mem_cons.mp hc with rfl | hc
        · exact absurd hca (lt_irrefl _)
        · exact absurd hca (not_lt.mpr (ha c hc).le)

/-- So a stable descending sort takes its position 0 from the first greatest entry. -/
theorem sortedFrom_zero (f : Fin (n + 1) → EReal) : sortedFrom (above f) 0 = firstMax f := by
  have hpw : (List.finRange (n + 1)).Pairwise (· < ·) := List.pairwise_lt_finRange _
  have hall : ∀ c, c ∈ List.finRange (n + 1) := List.mem_finRange
  have hs : sortedFrom (above f) 0 = (stableSort (above f) (List.finRange (n + 1))).get
      (Fin.cast (length_sortPositions (n + 1) (above f)).symm 0) := rfl
  obtain ⟨a, l, el⟩ : ∃ a l, List.finRange (n + 1) = a :: l := ⟨_, _, List.finRange_succ⟩
  obtain ⟨h, t, e, -, hmax, hfirst⟩ := head_stableSort f a l (el ▸ hpw)
  have h0 : sortedFrom (above f) 0 = h := by
    rw [hs, List.get_eq_getElem]
    simp only [el, e]
    rfl
  rw [h0]
  refine IsFirstMax.unique (f := f) ⟨fun c => hmax c (el ▸ hall c), fun c => hfirst c (el ▸ hall c)⟩ (isFirstMax_firstMax f)

end Cert.Sampler

end
-- ==== Proof.Spec.lean ====
/- The kernel's mathematics, one element at a time over extended reals: what both programs are shown to compute. -/
module

public import proofs.«01_k».proof.Proof.Words
public import proofs.«01_k».proof.Proof.FirstMax

@[expose] public section

noncomputable section

namespace Cert.Sampler

open Idealize.ShloMosaic

/-- A grid of 16 joints by 16 samples, or 16 joints by 4096 pixels. -/
abbrev Grid (n : Nat) := Fin 16 → Fin n → EReal

/-- The Gumbel noise of one random word: 23 of its bits make a number in [0, 1), kept off zero, under minus the logarithm
    twice. -/
def gumbel (w : BitVec 32) : EReal :=
  -Ideal.log (-Ideal.log (max
    ((FloatOps.ofBits .f32 (IntOp.ori (IntOp.shrui .host w 9#32) 1065353216#32) : Ideal .f32) - 1)
    (Ideal.ofBits .f32 0x00800000#32)))

/-- Zero in place of a negative value. -/
def clip (p : EReal) : EReal := if p < 0 then 0 else p

/-- The logarithm of a positive value, the least element otherwise. -/
def logit (p : EReal) : EReal := if 0 < p then Ideal.log (if 0 < p then p else 1) else Ideal.ofBits .f32 0xFF800000#32

/-- The counter of a pixel: batch `b`, joint `r`, sample `s`, pixel `c`, laid out sample first. -/
def position (b : Fin 256) (r s : Fin 16) (c : Fin 4096) : BitVec 32 :=
  BitVec.ofNat 32 ((s.val * 4096 + (b.val * 16 + r.val)) * 4096 + c.val)

/-- The pixel drawn for joint `r` as sample `s` in batch `b`, whose probabilities are `p`. -/
def drawn (b : Fin 256) (p : Grid 4096) (r s : Fin 16) : Fin 4096 :=
  firstMax fun c : Fin 4096 => gumbel (wordAt (position b r s c)) + logit (p r c)

/-- `drawn`, unfolded once. -/
theorem drawn_def (b : Fin 256) (p : Grid 4096) (r s : Fin 16) :
    drawn b p r s = firstMax fun c : Fin 4096 => gumbel (wordAt (position b r s c)) + logit (p r c) := rfl

/-- The drawn pixels' image columns. -/
def across (b : Fin 256) (p : Grid 4096) : Grid 16 := fun r s => (((drawn b p r s).val % 64 : ℕ) : ℝ)

/-- The drawn pixels' image rows. -/
def down (b : Fin 256) (p : Grid 4096) : Grid 16 := fun r s => (((drawn b p r s).val / 64 : ℕ) : ℝ)

/-- The sum over all joints and samples. -/
def sum (v : Grid 16) : EReal := ∑ r, ∑ s, v r s

/-- The values less their mean. -/
def lessMean (v : Grid 16) : Grid 16 := fun r s => v r s - Ideal.div (sum v) (Ideal.ofBits .f32 0x43800000#32)

/-- The standard deviation of the two grids' 512 values, with 511 in the denominator. -/
def spread (x y : Grid 16) : EReal :=
  let m := Ideal.div (sum x + sum y) (Ideal.ofBits .f32 0x44000000#32)
  Ideal.sqrt (Ideal.div
    ((sum fun r s => (x r s - m) * (x r s - m)) + sum fun r s => (y r s - m) * (y r s - m))
    (Ideal.ofBits .f32 0x43FF8000#32))

/-- The frequency of a lane. -/
def frequency (d : Fin 128) : EReal := Ideal.exp (((d.val % 32 : ℕ) : ℝ) * Ideal.ofBits .f32 0xBE981E82#32)

/-- The embedding of two centred coordinate grids at lane `d`. -/
def embedding (x y : Grid 16) (f : Fin 128 → EReal) (r s : Fin 16) (d : Fin 128) : EReal :=
  let arg := Ideal.div (if d.val < 64 then x r s else y r s) (spread x y) * f d
  if d.val % 64 < 32 then Ideal.sin arg else Ideal.cos arg

/-- One element of the result: batch `b`, joint `r`, sample `s`, lane `d`. -/
def token (b : Fin 256) (p : Grid 4096) (f : Fin 128 → EReal) (joint : Grid 128) (r s : Fin 16) (d : Fin 128) : EReal :=
  embedding (lessMean (across b p)) (lessMean (down b p)) f r s d * p r (drawn b p r s) + joint r d

/-- A sum of vectors at an index, from its terms there. -/
theorem sum_at {s : Shape} (u v : FVec Ideal s .f32) (j : s.Idx) (x y : EReal) (hu : u j = x) (hv : v j = y) :
    addf u v j = x + y := by
  subst hu hv; rfl

end Cert.Sampler

end
-- ==== Proof.KernelRead.lean ====
/- The kernel's block read at an index: `token` of the batch. -/
module

public import proofs.«01_k».proof.Proof.Spec

@[expose] public section

set_option maxRecDepth 16384

noncomputable section

namespace Cert.Sampler

open Cert.KernelIdeal Cert.KernelIdeal.Gen Idealize.ShloMosaic

/-! ## Words below 4096 -/

/-- The kernel's quotient by 64, with its corrections for negative words. -/
def quotient (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

/-- The kernel's floor division of a position by 64 is the quotient of the numbers. -/
theorem quotient_ofNat : ∀ k : Fin 4096, quotient (BitVec.ofNat 32 k.val) = BitVec.ofNat 32 (k.val / 64) := by
  decide +kernel

/-- The image row the kernel takes from column number `k` is `k / 64`. -/
theorem k0_pay50_apply (idx : IVec S16x1 32) (r : Fin 16) (k : Fin 4096) (h : idx (ix2 r 0) = BitVec.ofNat 32 k.val) :
    k0_pay50 (F := Ideal) idx (ix2 r 0) = ((k.val / 64 : ℕ) : ℝ) := by
  have e : k0_pay50 (F := Ideal) idx (ix2 r 0) = FloatOps.sitofp .f32 (quotient (idx (ix2 r 0))) := rfl
  have hk : (k.val / 64) < 4096 := by omega
  rw [e, h, quotient_ofNat]
  show (((BitVec.ofNat 32 (k.val / 64)).toInt : ℝ) : EReal) = _
  rw [toInt_ofNat_fin ⟨k.val / 64, hk⟩]
  norm_cast

/-- The image column the kernel takes from column number `k` is `k % 64`. -/
theorem k0_pay49_apply (idx : IVec S16x1 32) (r : Fin 16) (k : Fin 4096) (h : idx (ix2 r 0) = BitVec.ofNat 32 k.val) :
    k0_pay49 (F := Ideal) idx (ix2 r 0) = ((k.val % 64 : ℕ) : ℝ) := by
  have e : k0_pay49 (F := Ideal) idx (ix2 r 0)
      = FloatOps.sitofp .f32 (IntOp.subi (idx (ix2 r 0)) (IntOp.muli (quotient (idx (ix2 r 0))) 64#32)) := rfl
  have hk : (k.val % 64) < 4096 := by omega
  have e' : IntOp.subi (BitVec.ofNat 32 k.val) (IntOp.muli (BitVec.ofNat 32 (k.val / 64)) 64#32)
      = BitVec.ofNat 32 (k.val % 64) := by
    have := k.isLt
    apply BitVec.eq_of_toNat_eq
    simp only [IntOp.subi, IntOp.muli, BitVec.toNat_sub, BitVec.toNat_mul, BitVec.toNat_ofNat]
    omega
  rw [e, h, quotient_ofNat, e']
  show (((BitVec.ofNat 32 (k.val % 64)).toInt : ℝ) : EReal) = _
  rw [toInt_ofNat_fin ⟨k.val % 64, hk⟩]
  norm_cast

/-! ## One sample -/

theorem noise_apply {s : Shape} (bits : IVec s 32) (j : s.Idx) : noise (F := Ideal) bits j = gumbel (bits j) := by
  have e : IntOp.shrui .vector (bits j) 9#32 = IntOp.shrui .host (bits j) 9#32 := rfl
  pointwise [noise]
  rw [e, zero_sub, zero_sub]
  rfl

/-- The kernel's probability at an index is the clipped heatmap entry. -/
theorem probs_apply (x0 : Vec Ideal S1x16x4096 .f32) (r : Fin 16) (c : Fin 4096) :
    probs x0 (ix2 r c) = clip (x0 (ix3 0 r c)) := by
  pointwise [probs, k0_pay2, clip]

/-- The kernel's logit at an index is `logit` of the probability. -/
theorem logits_apply (x0 : Vec Ideal S1x16x4096 .f32) (r : Fin 16) (c : Fin 4096) :
    logits x0 (ix2 r c) = logit (clip (x0 (ix3 0 r c))) := by
  rw [← probs_apply]
  pointwise [logits, k0_pay3, logit, probs]

/-- The words the kernel adds up for a counter are the word of the position. -/
theorem counter_word (b r s c : Nat) :
    BitVec.ofNat 32 b * 65536#32 + BitVec.ofNat 32 r * 4096#32 + BitVec.ofNat 32 c + BitVec.ofNat 32 (s * 16777216)
      = BitVec.ofNat 32 ((s * 4096 + (b * 16 + r)) * 4096 + c) := by
  rw [← BitVec.ofNat_mul, ← BitVec.ofNat_mul, ← BitVec.ofNat_add, ← BitVec.ofNat_add, ← BitVec.ofNat_add]
  exact congrArg (BitVec.ofNat 32) (by ring)

/-- The kernel's counter at an index is the `position` of the batch, row, sample and column. -/
theorem counter_eq (i : grid0.Coords) (b : Fin 256) (hb : b.val = (i 0).val) (r s : Fin 16) (c : Fin 4096) :
    addi (k0_pay4 i) (broadcast S16x4096 (BitVec.ofNat 32 (s.val * 16777216))) (ix2 r c) = position b r s c := by
  pointwise [k0_pay4]
  rw [position, hb]
  exact counter_word (i 0).val r.val s.val c.val

/-- The scores are a sum of noise and logits. -/
theorem scores_eq (l : FVec Ideal S16x4096 .f32) (cnt : IVec S16x4096 32) :
    scores l cnt = addf (noise (randomWords cnt)) l := by
  rw [scores]

/-- A score at an index is the noise of the counter's word plus the logit. -/
theorem scores_apply (l : FVec Ideal S16x4096 .f32) (cnt : IVec S16x4096 32) (j : S16x4096.Idx) :
    scores l cnt j = gumbel (wordAt (cnt j)) + l j := by
  rw [scores_eq]
  refine sum_at _ _ _ _ _ ?_ rfl
  rw [noise_apply, randomWords_apply]

/-- The kernel's draw, its batch's number given as `b`. -/
theorem draw_apply (i : grid0.Coords) (b : Fin 256) (hb : b.val = (i 0).val) (x0 : Vec Ideal S1x16x4096 .f32) (r s : Fin 16) :
    draw i x0 (BitVec.ofNat 32 (s.val * 16777216)) (ix2 r 0)
      = BitVec.ofNat 32 (drawn b (fun r c => clip (x0 (ix3 0 r c))) r s).val := by
  rw [draw, firstBest_apply, drawn_def]
  simp only [scores_apply, counter_eq i b hb, logits_apply]

/-- The row sum that keeps the chosen column alone is the entry at that column. -/
theorem probAt_apply (p : FVec Ideal S16x4096 .f32) (idx : IVec S16x1 32) (r : Fin 16) (k : Fin 4096)
    (h : idx (ix2 r 0) = BitVec.ofNat 32 k.val) : probAt p idx (ix2 r 0) = p (ix2 r k) := by
  pointwise [probAt]
  rw [h, Finset.sum_eq_single k]
  · have : IntOp.cmpi .eq (BitVec.ofNat 32 k.val) (BitVec.ofNat 32 k.val) = 1#1 := by simp [IntOp.cmpi]
    rw [this]; rfl
  · intro c _ hck
    have hne : BitVec.ofNat 32 c.val ≠ BitVec.ofNat 32 k.val := by
      intro he
      have := congrArg BitVec.toInt he
      rw [toInt_ofNat_fin, toInt_ofNat_fin] at this
      exact hck (Fin.ext (by exact_mod_cast this))
    have : IntOp.cmpi .eq (BitVec.ofNat 32 c.val) (BitVec.ofNat 32 k.val) = 0#1 := by
      rw [IntOp.cmpi]; exact congrArg BitVec.ofBool (beq_eq_false_iff_ne.mpr hne)
    rw [this]; rfl
  · exact fun hk => absurd (Finset.mem_univ k) hk

/-- Column `s` of the sixteen side by side is the column made for sample number `s`. -/
theorem columns_apply (f : BitVec 32 → FVec Ideal S16x1 .f32) (r s : Fin 16) :
    columns f (ix2 r s) = f (BitVec.ofNat 32 (s.val * 16777216)) (ix2 r 0) := by
  have e : columns f = concatenate S16x16 1
      (List.ofFn fun n : Fin 16 => (⟨S16x1, f (BitVec.ofNat 32 (n.val * 16777216))⟩ : (s : Shape) × (s.Idx → EReal)))
      concatenates_S16x1_S16x1_S16x1_S16x1_S16x1_S16x1_S16x1_S16x1_S16x1_S16x1_S16x1_S16x1_S16x1_S16x1_S16x1_S16x1_S16x16_d1 := rfl
  rw [e]
  refine concatenate_ofFn_unit_apply (t := S16x16) (s₁ := S16x1) 1 (fun n : Fin 16 => f (BitVec.ofNat 32 (n.val * 16777216))) _ rfl rfl (ix2 r s : S16x16.Idx) s rfl
    (ix2 r 0 : S16x1.Idx) fun b hb => ?_
  match b with
  | ⟨0, _⟩ => rfl
  | ⟨1, _⟩ => exact absurd rfl hb

end Cert.Sampler
end
-- ==== Proof.KernelBlock.lean ====
/- The block one grid point of the kernel stores, read at an index: `token` of the batch. -/
module

public import proofs.«01_k».proof.Proof.KernelRead

@[expose] public section

set_option maxRecDepth 16384

noncomputable section

namespace Cert.Sampler

open Cert.KernelIdeal Cert.KernelIdeal.Gen Idealize.ShloMosaic

/-- The probabilities in a block of the heatmap. -/
abbrev blockGrid (x0 : Vec Ideal S1x16x4096 .f32) : Grid 4096 := fun r c => clip (x0 (ix3 0 r c))

section Draws
variable (i : grid0.Coords) (b : Fin 256) (hb : b.val = (i 0).val) (x0 : Vec Ideal S1x16x4096 .f32) (r s : Fin 16)
include hb

/-- The kernel's image columns are those of the drawn pixels. -/
theorem xs_apply : xs i x0 (ix2 r s) = across b (blockGrid x0) r s := by
  rw [xs, columns_apply]
  exact k0_pay49_apply _ r _ (draw_apply i b hb x0 r s)

/-- The kernel's image rows are those of the drawn pixels. -/
theorem ys_apply : ys i x0 (ix2 r s) = down b (blockGrid x0) r s := by
  rw [ys, columns_apply]
  exact k0_pay50_apply _ r _ (draw_apply i b hb x0 r s)

/-- The kernel's probabilities are those at the drawn pixels. -/
theorem ps_apply : ps i x0 (ix2 r s) = blockGrid x0 r (drawn b (blockGrid x0) r s) := by
  rw [ps, columns_apply]
  exact (probAt_apply _ _ r _ (draw_apply i b hb x0 r s)).trans (probs_apply x0 r _)

end Draws

/-! ## Statistics -/

section Statistics
variable (v x y : FVec Ideal S16x16 .f32) (p q : Grid 16)

/-- The kernel's total of a block is the double sum over its entries. -/
theorem total_eq (h : ∀ r s, v (ix2 r s) = p r s) : total v = sum p := by
  pointwise [total]
  simp only [h, sum]

/-- The kernel's centred coordinates are the coordinates less their mean. -/
theorem centred_apply (h : ∀ r s, v (ix2 r s) = p r s) (r s : Fin 16) : centred v (ix2 r s) = lessMean p r s := by
  pointwise [centred]
  rw [total_eq v p h, h, lessMean]

/-- The kernel's sum of squared distances from `m` is the double sum of the squares. -/
theorem squares_eq (m : EReal) (h : ∀ r s, v (ix2 r s) = p r s) :
    squares v m = sum fun r s => (p r s - m) * (p r s - m) := by
  rw [squares]
  refine total_eq _ _ fun r s => ?_
  rw [← h]
  rfl

/-- The kernel's deviation of two blocks of coordinates is `spread` of them. -/
theorem deviation_eq (hx : ∀ r s, x (ix2 r s) = p r s) (hy : ∀ r s, y (ix2 r s) = q r s) : deviation x y = spread p q := by
  rw [deviation, spread]
  rw [total_eq x p hx, total_eq y q hy, squares_eq x p _ hx, squares_eq y q _ hy]
  rfl

/-- The kernel's angle at a lane: column coordinate in the first 64 lanes, row coordinate in the others, over the
    deviation and times the lane's frequency. -/
theorem angles_apply (x2 : Vec Ideal S1x128 .f32) (hx : ∀ r s, x (ix2 r s) = p r s) (hy : ∀ r s, y (ix2 r s) = q r s)
    (r s : Fin 16) (d : Fin 128) :
    angles x y x2 (ix3 r s d) = Ideal.div (if d.val < 64 then p r s else q r s) (spread p q) * x2 (ix2 0 d) := by
  rw [← deviation_eq x y p q hx hy, ← hx, ← hy]
  have hd : ∀ d : Fin 128, IntOp.cmpi .slt (BitVec.ofNat 32 d.val) 64#32 = if d.val < 64 then 1#1 else 0#1 := by
    decide +kernel
  pointwise [angles]
  rw [hd]
  split <;> rfl

end Statistics

/-! ## The block -/

/-- The kernel's test for the sine half: the lane's number modulo 64, with its corrections for negative words, below 32. -/
def sineLane (w : BitVec 32) : BitVec 1 :=
  IntOp.cmpi CmpIPredicate.slt
    (Scalar.select
      (IntOp.andi
        (IntOp.xori
          (IntOp.cmpi CmpIPredicate.slt
            (IntOp.remsi ArithUnit.vector w (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne
          (IntOp.remsi ArithUnit.vector w (Scalar.select (Scalar.cmpi CmpIPredicate.eq 64#32 0#32) 1#32 64#32)) 0#32))
      (IntOp.addi (IntOp.remsi ArithUnit.vector w (Scalar.select (Scalar.cmpi CmpIPredicate.eq 64#32 0#32) 1#32 64#32))
        (Scalar.select (Scalar.cmpi CmpIPredicate.eq 64#32 0#32) 1#32 64#32))
      (IntOp.remsi ArithUnit.vector w (Scalar.select (Scalar.cmpi CmpIPredicate.eq 64#32 0#32) 1#32 64#32)))
    32#32

/-- A lane takes the sine exactly if its number modulo 64 is under 32. -/
theorem sineLane_ofNat : ∀ d : Fin 128, sineLane (BitVec.ofNat 32 d.val) = if d.val % 64 < 32 then 1#1 else 0#1 := by
  decide +kernel

/-- The last payloads at an index. -/
theorem finish_apply (a : FVec Ideal S16x16 .f32) (e : FVec Ideal S16x16x128 .f32) (x1 : Vec Ideal S16x128 .f32)
    (r s : Fin 16) (d : Fin 128) :
    k0_pay1 (k0_pay776 a (iota .tc S16x16x128 32 [2] iota_S16x16x128_d2_w32) e) (k0_pay777 x1) (ix4 0 r s d)
      = (if d.val % 64 < 32 then Ideal.sin (e (ix3 r s d)) else Ideal.cos (e (ix3 r s d))) * a (ix2 r s) + x1 (ix2 r d) := by
  have h := sineLane_ofNat d
  rw [sineLane] at h
  pointwise [k0_pay1, k0_pay776, k0_pay777]
  rw [h]
  split <;> rfl

/-- The block at an index. -/
theorem block_apply (i : grid0.Coords) (b : Fin 256) (hb : b.val = (i 0).val) (x0 : Vec Ideal S1x16x4096 .f32)
    (x1 : Vec Ideal S16x128 .f32) (x2 : Vec Ideal S1x128 .f32) (r s : Fin 16) (d : Fin 128) :
    block i x0 x1 x2 (ix4 0 r s d)
      = token b (blockGrid x0) (fun d => x2 (ix2 0 d)) (fun r d => x1 (ix2 r d)) r s d := by
  rw [block, finish_apply, ps_apply i b hb,
    angles_apply _ _ (lessMean (across b (blockGrid x0))) (lessMean (down b (blockGrid x0))) x2
      (centred_apply _ _ (xs_apply i b hb x0)) (centred_apply _ _ (ys_apply i b hb x0)),
    token, embedding]

end Cert.Sampler

end
-- ==== Proof.RefDraw.lean ====
/- The reference's probabilities, noise and counters, read at an index. -/
module

public import proofs.«01_k».proof.Proof.Spec

@[expose] public section

set_option maxRecDepth 16384

noncomputable section

namespace Cert.Sampler

open Cert.ReferenceIdeal Cert.ReferenceIdeal.Gen Cert.ReferenceIdeal.Read Idealize.ShloMosaic

/-- A heatmap and a joint table. -/
abbrev Heat := (⟨S256x16x64x64, .f32⟩ : BufTy).Contents (Elt Ideal)

/-- The probabilities of batch `b`. -/
def gridOf (x0 : Heat) (b : Fin 256) : Grid 4096 := fun r c =>
  clip (x0 (ix4 b r ⟨c.val / 64, by omega⟩ ⟨c.val % 64, by omega⟩))

/-- Row `b·16 + r` of the flat arrays. -/
def flatRow (b : Fin 256) (r : Fin 16) : Fin 4096 := ⟨b.val * 16 + r.val, by omega⟩

/-- The value that replaces negative entries is 0. -/
theorem zeroFill_apply (i : S_.Idx) : val_main_call0_v0 (F := Ideal) i = 0 := by
  show constant (F := Ideal) S_ .f32 0x00000000#32 i = 0
  pointwise

/-- The value that replaces entries without a logarithm is 1. -/
theorem oneFill_apply (i : S_.Idx) : val_main_call1_v0 (F := Ideal) i = 1 := by
  show constant (F := Ideal) S_ .f32 0x3F800000#32 i = 1
  pointwise

/-- The reference's flattened probability is the clipped heatmap entry. -/
theorem flat_apply (x0 : Heat) (b : Fin 256) (r : Fin 16) (c : Fin 4096) :
    val_main_v3 (F := Ideal) x0 (ix2 (flatRow b r) c) = gridOf x0 b r c := by
  have e1 : (b.val * 16 + r.val) / 16 = b.val := by omega
  have e2 : (b.val * 16 + r.val) % 16 = r.val := by omega
  pointwise [val_main_v3, val_main_v2, val_main_v1, val_main_v0, val_main_cst, val_main_call0_v1, gridOf, clip, flatRow]
  simp only [zeroFill_apply]

/-- The reference's logit is `logit` of the probability. -/
theorem refLogits_apply (x0 : Heat) (b : Fin 256) (r : Fin 16) (c : Fin 4096) :
    val_main_v10 (F := Ideal) x0 (ix2 (flatRow b r) c) = logit (gridOf x0 b r c) := by
  rw [← flat_apply]
  pointwise [val_main_v10, val_main_v9, val_main_v8, val_main_v7, val_main_v6, val_main_v5, val_main_v4, val_main_cst_1,
    val_main_cst_2, val_main_call1_v1, val_main_call2_v1, logit]
  simp only [oneFill_apply]
  rfl

/-- The reference's noise from its random words. -/
def refNoise (bits : IVec S16x4096x4096 32) : FVec Ideal S16x4096x4096 .f32 :=
  Host.negf (Host.log (Host.negf (Host.log (maximumf
    (subf (bitcastToFloat .f32 (ori (Host.shrui bits (val_main_v186 (F := Ideal))) (val_main_v188 (F := Ideal))))
      (val_main_v191 (F := Ideal)))
    (val_main_v193 (F := Ideal))))))

/-- The reference's noise of words, at an index, is `gumbel` of the word there. -/
theorem refNoise_apply (bits : IVec S16x4096x4096 32) (j : S16x4096x4096.Idx) : refNoise bits j = gumbel (bits j) := by
  pointwise [refNoise, val_main_v186, val_main_c_59, val_main_v188, val_main_c_60, val_main_v191, val_main_cst_61,
    val_main_v193, val_main_cst_62]
  rfl

/-- The reference's noise is `refNoise` of its words. -/
theorem v198_eq : val_main_v198 (F := Ideal) = refNoise (val_main_v185 (F := Ideal)) := by
  unfold val_main_v198 val_main_v197 val_main_v196 val_main_v195 val_main_v194 val_main_v192 val_main_v190 val_main_v189
    val_main_v187
  generalize val_main_v185 (F := Ideal) = v
  rfl

/-- The words the reference multiplies and adds for a position are the word of the number. -/
theorem counterWord_eq (n p c : Nat) :
    (BitVec.ofNat 32 n * 4096#32 + BitVec.ofNat 32 p) * 4096#32 + BitVec.ofNat 32 c
      = BitVec.ofNat 32 ((n * 4096 + p) * 4096 + c) := by
  rw [← BitVec.ofNat_mul, ← BitVec.ofNat_add, ← BitVec.ofNat_mul, ← BitVec.ofNat_add]

/-- The reference's counter is the `position` of the batch, row, sample and column. -/
theorem refPosition_apply (b : Fin 256) (r s : Fin 16) (c : Fin 4096) :
    val_main_v19 (F := Ideal) (ix3 s (flatRow b r) c) = position b r s c := by
  pointwise [val_main_v19, val_main_v18, val_main_v17, val_main_v16, val_main_v15, val_main_v14, val_main_v13, val_main_v12,
    val_main_v11, val_main_c, val_main_c_5]
  exact counterWord_eq s.val (b.val * 16 + r.val) c.val

end Cert.Sampler

end
-- ==== Proof.RefScore.lean ====
/- The reference's scores, read at an index. -/
module

public import proofs.«01_k».proof.Proof.RefDraw

@[expose] public section

set_option maxRecDepth 16384

noncomputable section

namespace Cert.Sampler

open Cert.ReferenceIdeal Cert.ReferenceIdeal.Gen Cert.ReferenceIdeal.Read Idealize.ShloMosaic

/-- The reference's noise at one place. -/
theorem refNoiseAt_apply (b : Fin 256) (r s : Fin 16) (c : Fin 4096) :
    refNoise (val_main_v185 (F := Ideal)) (ix3 s (flatRow b r) c) = gumbel (wordAt (position b r s c)) :=
  (refNoise_apply _ _).trans (congrArg gumbel ((refWords_apply _).trans (congrArg wordAt (refPosition_apply b r s c))))

/-- The reference's logits, repeated for every sample. -/
theorem refPart_apply (x0 : Heat) (b : Fin 256) (r s : Fin 16) (c : Fin 4096) :
    val_main_v200 (F := Ideal) x0 (ix3 s (flatRow b r) c) = logit (gridOf x0 b r c) := by
  rw [← refLogits_apply]
  pointwise [val_main_v200, val_main_v199]

/-- The reference's scores are a sum of noise and logits. -/
theorem refSum_eq (x0 : Heat) : val_main_v201 (F := Ideal) x0
    = addf (F := Ideal) (φ := .f32) (refNoise (val_main_v185 (F := Ideal))) (val_main_v200 (F := Ideal) x0) := by
  rw [← v198_eq, val_main_v201]

/-- The reference's scores. -/
theorem refScores_apply (x0 : Heat) (b : Fin 256) (r s : Fin 16) (c : Fin 4096) :
    val_main_v201 (F := Ideal) x0 (ix3 s (flatRow b r) c)
      = gumbel (wordAt (position b r s c)) + logit (gridOf x0 b r c) := by
  rw [refSum_eq]
  exact sum_at _ _ _ _ _ (refNoiseAt_apply b r s c) (refPart_apply x0 b r s c)

end Cert.Sampler

end
-- ==== Proof.RefPick.lean ====
/- The reference's `top_k` and `take_along_axis`, read at an index. -/
module

public import proofs.«01_k».proof.Proof.RefDraw

@[expose] public section

set_option maxRecDepth 16384

noncomputable section

namespace Cert.Sampler

open Cert.ReferenceIdeal Cert.ReferenceIdeal.Gen Cert.ReferenceIdeal.Read Idealize.ShloMosaic

/-- An index of the scores with its last coordinate replaced. -/
theorem along_ix3 (s : Fin 16) (row c k : Fin 4096) (h : 2 < 3) :
    Shape.Idx.along (s := S16x4096x4096) (ix3 s row c) ⟨2, h⟩ k = ix3 s row k := by
  funext b
  match b with
  | ⟨0, _⟩ => rfl
  | ⟨1, _⟩ => rfl
  | ⟨2, _⟩ => rfl

/-- Whether one extended real is greater than another, as the sort compares them. -/
theorem greater_eq (u v : EReal) : (FloatOps.cmpfTotal (F := Ideal) (φ := .f32) .gt u v == 1#1) = decide (v < u) := by
  rw [Ideal.cmpfTotal_def]
  show (BitVec.ofBool (decide (v < u)) == 1#1) = decide (v < u)
  cases decide (v < u) <;> rfl

/-- Sorting along the last axis, greatest first, with the positions carried along: the position that ends up first. -/
theorem sorted_apply (x : FVec Ideal S16x4096x4096 .f32) (s : Fin 16) (row : Fin 4096) (y : IVec S16x4096x4096 32) :
    (Host.sort2 S16x4096x4096 2 (fun l r => FloatOps.cmpfTotal (F := Ideal) (φ := .f32) .gt l.1 r.1) x y).2
        (ix3 s row (0 : Fin 4096))
      = y (ix3 s row (firstMax fun c : Fin 4096 => x (ix3 s row c))) := by
  rw [← sortedFrom_zero]
  unfold Host.sort2
  rw [dif_pos (show 2 < S16x4096x4096.rank by decide)]
  simp only [greater_eq]
  refine (congrArg y (along_ix3 s row 0 _ (by decide))).trans (congrArg (fun k => y (ix3 s row k)) ?_)
  refine congrArg (fun f => sortedFrom f (0 : Fin 4096)) (funext fun k => funext fun k' => ?_)
  exact congrArg₂ (fun u v : EReal => decide (u < v)) (congrArg x (along_ix3 s row 0 k' (by decide)))
    (congrArg x (along_ix3 s row 0 k (by decide)))

/-- The position that a greatest-one selection along the last axis of a rank-3 array returns. -/
theorem topK_apply (x : FVec Ideal S16x4096x4096 .f32) (s : Fin 16) (row : Fin 4096) :
    (Host.topK S16x4096x1 2 (FloatOps.cmpfTotal .gt) x sliceFits_S16x4096x4096_S16x4096x1).2 (ix3 s row 0)
      = BitVec.ofNat 32 (firstMax fun c : Fin 4096 => x (ix3 s row c)).val := by
  have cut : ∀ v : IVec S16x4096x4096 32,
      extractStridedSlice S16x4096x1 (fun _ => 0) v sliceFits_S16x4096x4096_S16x4096x1 (ix3 s row 0)
        = v (ix3 s row (0 : Fin 4096)) := by
    intro v
    refine congrArg v (funext fun b => ?_)
    match b with
    | ⟨0, _⟩ => exact Fin.ext (Nat.zero_add _)
    | ⟨1, _⟩ => exact Fin.ext (Nat.zero_add _)
    | ⟨2, _⟩ => rfl
  show extractStridedSlice S16x4096x1 (fun _ => 0)
      (Host.sort2 S16x4096x4096 2 (fun l r => FloatOps.cmpfTotal (F := Ideal) (φ := .f32) .gt l.1 r.1) x
        (fun i => if hd : 2 < S16x4096x4096.rank then iotaInDim S16x4096x4096 32 ⟨2, hd⟩ i else 0#32)).2
      sliceFits_S16x4096x4096_S16x4096x1 (ix3 s row 0) = _
  rw [cut, sorted_apply]
  rw [dif_pos (show 2 < S16x4096x4096.rank by decide)]
  rfl

/-! ## The probability at the drawn pixel -/

theorem start_apply (x0 : Heat) (row : Fin 4096) (s : Fin 16) (k : Fin 4096)
    (h : val_main_v203 (F := Ideal) x0 (ix2 row s) = BitVec.ofNat 32 k.val) (t : Fin 1) :
    val_main_call3_v5 (F := Ideal) x0 (ix3 row s t) = BitVec.ofNat 32 k.val := by
  have hneg : ∀ k : Fin 4096, IntOp.cmpi .slt (BitVec.ofNat 32 k.val) 0#32 = 0#1 := by decide +kernel
  pointwise [val_main_call3_v5, val_main_call3_v4, val_main_call3_v3, val_main_call3_v2, val_main_call3_v1, val_main_call3_v0,
    val_main_call3_c, val_main_call3_c_0]
  rw [h, hneg]
  rfl

/-- A drawn column lies inside its row. -/
theorem inside_apply (x0 : Heat) (row : Fin 4096) (s : Fin 16) (k : Fin 4096)
    (h : val_main_v203 (F := Ideal) x0 (ix2 row s) = BitVec.ofNat 32 k.val) :
    val_main_call3_v12 (F := Ideal) x0 (ix2 row s) = 1#1 := by
  have hin : ∀ k : Fin 4096, IntOp.andi (IntOp.cmpi .sge (BitVec.ofNat 32 k.val) 0#32)
      (IntOp.cmpi .sle (BitVec.ofNat 32 k.val) 4095#32) = 1#1 := by decide +kernel
  have e : ∀ t : Fin 1, val_main_call3_v11 (F := Ideal) x0 (ix3 row s t) = 1#1 := by
    intro t
    have hs := start_apply x0 row s k h t
    pointwise [val_main_call3_v11, val_main_call3_v10, val_main_call3_v9, val_main_call3_v8, val_main_call3_v7, val_main_call3_v6,
      val_main_call3_c_1, val_main_call3_c_2]
    rw [hs]
    exact hin k
  pointwise [val_main_call3_v12, val_main_call3_c_3]
  simp only [e]
  decide +kernel

/-- The gather takes, from each row, the entry at the row's index. -/
theorem gather_apply (x : FVec Ideal S4096x4096 .f32) (idx : IVec S4096x16x1 32) (row : Fin 4096) (s : Fin 16) (k : Fin 4096)
    (h : idx (ix3 row s 0) = BitVec.ofNat 32 k.val) :
    Host.gather gather_S4096x4096_S4096x16x1_S4096x16_n_1_0_0_1_2_11 x idx (ix2 row s) = x (ix2 row k) := by
  unfold Host.gather
  congr 1
  funext a
  refine Fin.ext ?_
  show gather_S4096x4096_S4096x16x1_S4096x16_n_1_0_0_1_2_11.start (ix2 row s) idx a
      + gather_S4096x4096_S4096x16x1_S4096x16_n_1_0_0_1_2_11.batchCoord (ix2 row s) a
      + gather_S4096x4096_S4096x16x1_S4096x16_n_1_0_0_1_2_11.offCoord (ix2 row s) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl), Nat.zero_add,
      GatherDims.offCoord_eq_zero _ _ _ fun h => ((GatherDims.mem_sKept _ _).mp h).2 (List.mem_singleton.mpr rfl), Nat.add_zero]
    unfold GatherDims.batchCoord
    rw [dif_pos (show (0 : Fin 2) ∈ gather_S4096x4096_S4096x16x1_S4096x16_n_1_0_0_1_2_11.operandBatchingDims from
      List.mem_singleton.mpr rfl)]
    rfl
  · rw [GatherDims.batchCoord_eq_zero _ _ _ fun h => absurd (List.mem_singleton.mp h) (by decide), Nat.add_zero,
      GatherDims.offCoord_eq_zero _ _ _ fun h => ((GatherDims.mem_sKept _ _).mp h).1 (List.mem_singleton.mpr rfl), Nat.add_zero]
    unfold GatherDims.start
    rw [dif_pos (show (1 : Fin 2) ∈ gather_S4096x4096_S4096x16x1_S4096x16_n_1_0_0_1_2_11.startIndexMap from
      List.mem_singleton.mpr rfl)]
    have hpos : ∀ t, gather_S4096x4096_S4096x16x1_S4096x16_n_1_0_0_1_2_11.siIdx (ix2 row s) t = ix3 row s 0 := by
      intro t
      funext b; refine Fin.ext ?_
      match b with
      | ⟨0, _⟩ => rfl
      | ⟨1, _⟩ => rfl
      | ⟨2, _⟩ => exact Nat.lt_one_iff.mp (Fin.isLt _)
    rw [hpos, h, toInt_ofNat_fin]
    show min ((k.val : Int).toNat) (4096 - 1) = k.val
    omega

end Cert.Sampler

end
-- ==== Proof.RefProb.lean ====
/- The reference's draws, read at an index: the pixel it takes by `top_k` and that pixel's probability. -/
module

public import proofs.«01_k».proof.Proof.RefScore
public import proofs.«01_k».proof.Proof.RefPick

@[expose] public section

set_option maxRecDepth 16384

noncomputable section

namespace Cert.Sampler

open Cert.ReferenceIdeal Cert.ReferenceIdeal.Gen Cert.ReferenceIdeal.Read Idealize.ShloMosaic

/-- The pixel the reference draws. -/
theorem refDraw_apply (x0 : Heat) (b : Fin 256) (r s : Fin 16) :
    val_main_v203 (F := Ideal) x0 (ix2 (flatRow b r) s) = BitVec.ofNat 32 (drawn b (gridOf x0 b) r s).val := by
  have e : val_main_v203 (F := Ideal) x0 (ix2 (flatRow b r) s) = val_main_indices (F := Ideal) x0 (ix3 s (flatRow b r) 0) := by
    pointwise [val_main_v203, val_main_v202]
  rw [e, val_main_indices, topK_apply, drawn_def]
  simp only [refScores_apply]

/-- The probability the reference reads. -/
theorem refProb_apply (x0 : Heat) (b : Fin 256) (r s : Fin 16) :
    val_main_v205 (F := Ideal) x0 (ix3 b r s) = gridOf x0 b r (drawn b (gridOf x0 b) r s) := by
  have h := refDraw_apply x0 b r s
  have e : val_main_v205 (F := Ideal) x0 (ix3 b r s) = val_main_v204 (F := Ideal) x0 (ix2 (flatRow b r) s) := by
    pointwise [val_main_v205]
    rfl
  rw [e, val_main_v204_apply, inside_apply x0 _ s _ h, ← flat_apply, val_main_call3_v13,
    gather_apply _ _ _ s _ (start_apply x0 _ s _ h 0)]
  rfl

end Cert.Sampler

end
-- ==== Proof.RefCoords.lean ====
/- The reference's coordinates of the drawn pixels and their embedding, read at an index. -/
module

public import proofs.«01_k».proof.Proof.RefProb

@[expose] public section

set_option maxRecDepth 16384

noncomputable section

namespace Cert.Sampler

open Cert.ReferenceIdeal Cert.ReferenceIdeal.Gen Cert.ReferenceIdeal.Read Idealize.ShloMosaic

/-- The literal 64. -/
theorem sixtyFour : Ideal.ofBits .f32 0x42800000#32 = ((64 : ℝ) : EReal) := by
  simp [Ideal.ofBits, Ideal.ieee, -EReal.coe_mul]
  norm_num

/-- The literal 511. -/
theorem fiveEleven : Ideal.ofBits .f32 0x43FF8000#32 = ((511 : ℝ) : EReal) := by
  simp [Ideal.ofBits, Ideal.ieee, -EReal.coe_mul]
  norm_num

/-- The literal 512. -/
theorem fiveTwelve : Ideal.ofBits .f32 0x44000000#32 = ((512 : ℝ) : EReal) := by
  simp [Ideal.ofBits, Ideal.ieee, -EReal.coe_mul]
  norm_num

/-- The floor of a natural number over 64 is the quotient of the numbers. -/
theorem floor_div (k : ℕ) : ⌊((k : ℝ) / 64)⌋ = ((k / 64 : ℕ) : ℤ) := by
  have h : (k : ℝ) = ((64 * (k / 64) + k % 64 : ℕ) : ℝ) := by rw [Nat.div_add_mod]
  have hlt : ((k % 64 : ℕ) : ℝ) < 64 := by exact_mod_cast Nat.mod_lt k (by norm_num)
  have hge : (0 : ℝ) ≤ ((k % 64 : ℕ) : ℝ) := Nat.cast_nonneg _
  rw [Nat.cast_add, Nat.cast_mul] at h
  rw [Int.floor_eq_iff]
  generalize k / 64 = q at h ⊢
  generalize ((k % 64 : ℕ) : ℝ) = m at h hlt hge
  rw [h]
  push_cast
  constructor
  · rw [le_div_iff₀ (by norm_num)]; linarith
  · rw [div_lt_iff₀ (by norm_num)]; linarith

/-- The remainder by 64 of a whole number of reals. -/
theorem remainder_eq (k : ℕ) : Ideal.remf ((k : ℝ) : EReal) ((64 : ℝ) : EReal) = (((k % 64 : ℕ) : ℝ) : EReal) := by
  show (if (64 : ℝ) = 0 then (⊥ : EReal) else (((k : ℝ) - 64 * (Ideal.truncInt ((k : ℝ) / 64) : ℝ) : ℝ) : EReal)) = _
  rw [if_neg (by norm_num), Ideal.truncInt, if_pos (by positivity), floor_div]
  congr 1
  have h : (k : ℝ) = ((64 * (k / 64) + k % 64 : ℕ) : ℝ) := by rw [Nat.div_add_mod]
  rw [Nat.cast_add, Nat.cast_mul] at h
  rw [Int.cast_natCast]
  generalize ((k / 64 : ℕ) : ℝ) = q at h ⊢
  push_cast at h
  linarith

/-- The reference's sample as a float is the number of the drawn pixel. -/
theorem sample_apply (x0 : Heat) (b : Fin 256) (r s : Fin 16) :
    val_main_v207 (F := Ideal) x0 (ix3 b r s) = (((drawn b (gridOf x0 b) r s).val : ℝ) : EReal) := by
  have h := refDraw_apply x0 b r s
  have e : val_main_v206 (F := Ideal) x0 (ix3 b r s) = val_main_v203 (F := Ideal) x0 (ix2 (flatRow b r) s) := by
    pointwise [val_main_v206]
    rfl
  rw [val_main_v207_apply, e, h]
  show (((BitVec.ofNat 32 (drawn b (gridOf x0 b) r s).val).toInt : ℝ) : EReal) = _
  rw [toInt_ofNat_fin]
  norm_cast

/-- The reference's float remainder by 64 is the drawn pixel's image column. -/
theorem refAcross_apply (x0 : Heat) (b : Fin 256) (r s : Fin 16) :
    val_main_v208 (F := Ideal) x0 (ix3 b r s) = across b (gridOf x0 b) r s := by
  have e : val_main_call4_v0 (F := Ideal) ix0 = ((64 : ℝ) : EReal) := by rw [← sixtyFour]; rfl
  have hm : val_main_call4_v2 (F := Ideal) x0 (ix3 b r s) = across b (gridOf x0 b) r s := by
    have h := sample_apply x0 b r s
    pointwise [val_main_call4_v2, val_main_call4_v1]
    rw [h, e]
    exact remainder_eq _
  rw [val_main_v208_apply, val_main_call4_v10_apply, val_main_call4_v9_apply]
  pointwise [val_main_call4_v6, val_main_call4_v8, val_main_call4_v7, val_main_call4_v5, val_main_call4_cst_0, val_main_call4_cst_1]
  have h0 : ¬ across b (gridOf x0 b) r s < 0 := not_lt.mpr (by rw [across]; exact_mod_cast Nat.zero_le _)
  have h1 : ¬ ((64 : ℝ) : EReal) < 0 := not_lt.mpr (by exact_mod_cast (by norm_num : (0 : ℝ) ≤ 64))
  rw [hm, e, decide_eq_false h0, decide_eq_false h1]
  have hz : ∀ u : BitVec 1, IntOp.andi (IntOp.cmpi .ne (BitVec.ofBool false) (BitVec.ofBool false)) u = 0#1 := by decide
  rw [hz]
  rfl

/-- The reference's floor of the quotient by 64 is the drawn pixel's image row. -/
theorem refDown_apply (x0 : Heat) (b : Fin 256) (r s : Fin 16) :
    val_main_v211 (F := Ideal) x0 (ix3 b r s) = down b (gridOf x0 b) r s := by
  have h := sample_apply x0 b r s
  pointwise [val_main_v211, val_main_v210, val_main_v209, val_main_cst_64]
  rw [h, sixtyFour, down]
  generalize (drawn b (gridOf x0 b) r s).val = k
  have hd : Ideal.div ((k : ℝ) : EReal) ((64 : ℝ) : EReal) = (((k : ℝ) / 64 : ℝ) : EReal) := by
    rw [Ideal.div, if_neg (by exact_mod_cast (by norm_num : (64 : ℝ) ≠ 0)), ← EReal.coe_inv, ← EReal.coe_mul]
    rfl
  rw [hd]
  show (((⌊(k : ℝ) / 64⌋ : ℤ) : ℝ) : EReal) = _
  rw [floor_div]
  norm_cast

/-- The reference's image columns less their mean. -/
theorem refCentredX_apply (x0 : Heat) (b : Fin 256) (r s : Fin 16) :
    val_main_v217 (F := Ideal) x0 (ix3 b r s) = lessMean (across b (gridOf x0 b)) r s := by
  have h := refAcross_apply x0 b
  pointwise [val_main_v217, val_main_v216, val_main_v215, val_main_v214, val_main_v213, val_main_v212, val_main_cst_65, val_main_cst_66]
  simp only [h]
  rfl

/-- The reference's image rows less their mean. -/
theorem refCentredY_apply (x0 : Heat) (b : Fin 256) (r s : Fin 16) :
    val_main_v223 (F := Ideal) x0 (ix3 b r s) = lessMean (down b (gridOf x0 b)) r s := by
  have h := refDown_apply x0 b
  pointwise [val_main_v223, val_main_v222, val_main_v221, val_main_v220, val_main_v219, val_main_v218, val_main_cst_67, val_main_cst_68]
  simp only [h]
  rfl

/-- The two centred coordinates at a sample: column first, then row. -/
theorem refStack_apply (x0 : Heat) (b : Fin 256) (r s : Fin 16) :
    val_main_v226 (F := Ideal) x0 (ix4 b r s (0 : Fin 2)) = lessMean (across b (gridOf x0 b)) r s
      ∧ val_main_v226 (F := Ideal) x0 (ix4 b r s (1 : Fin 2)) = lessMean (down b (gridOf x0 b)) r s := by
  have e : ∀ t : Fin 2, val_main_v226 (F := Ideal) x0 (ix4 b r s t)
      = if t.val < 1 then val_main_v217 (F := Ideal) x0 (ix3 b r s) else val_main_v223 (F := Ideal) x0 (ix3 b r s) := by
    intro t
    pointwise [val_main_v226, val_main_v225, val_main_v224]
    rfl
  constructor
  · rw [e, if_pos (by decide), refCentredX_apply]
  · rw [e, if_neg (by decide), refCentredY_apply]

/-- The sum over joints, samples and the two coordinates. -/
theorem sumAll_apply (v : FVec Ideal S256x16x16x2 .f32) (init : FVec Ideal S_ .f32) (h0 : init = constant S_ .f32 0x00000000#32)
    (b : Fin 256) (x y : Grid 16) (hx : ∀ r s, v (ix4 b r s (0 : Fin 2)) = x r s) (hy : ∀ r s, v (ix4 b r s (1 : Fin 2)) = y r s) :
    Host.reduceAdd v init reducesTo_S256x16x16x2_S256_d1_2_3 h_S_ (ix1 b) = sum x + sum y := by
  subst h0
  have hz : (constant (F := Ideal) S_ .f32 0x00000000#32) (Shape.Idx.first h_S_) = 0 := by pointwise
  show Ideal.hostReduceAdd reducesTo_S256x16x16x2_S256_d1_2_3 v
    ((constant (F := Ideal) S_ .f32 0x00000000#32) (Shape.Idx.first h_S_)) (ix1 b) = _
  rw [hz, Ideal.hostReduceAdd, zero_add]
  have fiber : ∀ i : S256x16x16x2.Idx, reducesTo_S256x16x16x2_S256_d1_2_3.drop i = ix1 b
      ↔ ∃ k : Fin 16 × Fin 16 × Fin 2, ix4 b k.1 k.2.1 k.2.2 = i := by
    intro i
    constructor
    · intro e
      refine ⟨(i 1, i 2, i 3), ?_⟩
      funext a; apply Fin.ext
      match a with
      | ⟨0, _⟩ => exact (congrArg Fin.val (congrFun e 0)).symm
      | ⟨1, _⟩ => rfl
      | ⟨2, _⟩ => rfl
      | ⟨3, _⟩ => rfl
    · rintro ⟨k, rfl⟩
      funext a
      match a with
      | ⟨0, _⟩ => rfl
  refine (Finset.sum_filter_eq_sum_of_fiber _ (fun k : Fin 16 × Fin 16 × Fin 2 => (ix4 b k.1 k.2.1 k.2.2 : S256x16x16x2.Idx))
    (fun _ _ e => Prod.ext (congrFun e 1) (Prod.ext (congrFun e 2) (congrFun e 3))) fiber v).trans ?_
  simp only [Fintype.sum_prod_type, Fin.sum_univ_two, hx, hy, Finset.sum_add_distrib]
  rfl

/-- The reference's sum over the stacked coordinates is the sum of both grids. -/
theorem refTotal_apply (x0 : Heat) (b : Fin 256) :
    val_main_call5_call0_v0 (F := Ideal) x0 (ix1 b)
      = sum (lessMean (across b (gridOf x0 b))) + sum (lessMean (down b (gridOf x0 b))) :=
  sumAll_apply _ _ rfl b _ _ (fun r s => (refStack_apply x0 b r s).1) fun r s => (refStack_apply x0 b r s).2

/-- The reference's squared distance of a stacked coordinate from their mean. -/
theorem refSquare_apply (x0 : Heat) (b : Fin 256) (r s : Fin 16) (t : Fin 2) (m v : EReal)
    (hm : Ideal.div (val_main_call5_call0_v0 (F := Ideal) x0 (ix1 b)) (Ideal.ofBits .f32 0x44000000#32) = m)
    (hv : val_main_v226 (F := Ideal) x0 (ix4 b r s t) = v) :
    val_main_call5_call0_v6 (F := Ideal) x0 (ix4 b r s t) = (v - m) * (v - m) := by
  subst hm hv
  pointwise [val_main_call5_call0_v6, val_main_call5_call0_v5, val_main_call5_call0_v4, val_main_call5_call0_v3,
    val_main_call5_call0_v2, val_main_call5_call0_v1, val_main_call5_call0_cst_0]

/-- The reference's deviation is `spread` of the centred coordinates. -/
theorem refSpread_apply (x0 : Heat) (b : Fin 256) :
    val_main_v227 (F := Ideal) x0 (ix1 b) = spread (lessMean (across b (gridOf x0 b))) (lessMean (down b (gridOf x0 b))) := by
  have hone : FloatOps.sitofp (F := Ideal) .f32 (1#32) = ((1 : ℝ) : EReal) := by
    show ((((1#32).toInt : ℤ) : ℝ) : EReal) = _
    have : (1#32).toInt = 1 := by decide
    rw [this]; norm_num
  have hden : Ideal.ofBits .f32 0x44000000#32 - FloatOps.sitofp (F := Ideal) .f32 (1#32) = Ideal.ofBits .f32 0x43FF8000#32 := by
    rw [hone, fiveTwelve, fiveEleven, ← EReal.coe_sub]
    norm_num
  have hpos : 0 < Ideal.ofBits .f32 0x43FF8000#32 := by
    rw [fiveEleven]; exact_mod_cast (by norm_num : (0 : ℝ) < 511)
  have hsum := sumAll_apply (val_main_call5_call0_v6 (F := Ideal) x0) _ rfl b _ _
    (fun r s => refSquare_apply x0 b r s 0 _ _ (congrArg (Ideal.div · _) (refTotal_apply x0 b)) (refStack_apply x0 b r s).1)
    fun r s => refSquare_apply x0 b r s 1 _ _ (congrArg (Ideal.div · _) (refTotal_apply x0 b)) (refStack_apply x0 b r s).2
  pointwise [val_main_v227, val_main_call5_v0, val_main_call5_call0_v11, val_main_call5_call0_v10, val_main_call5_call0_v12,
    val_main_call5_call0_v8, val_main_call5_call0_cst_1, val_main_call5_call0_cst_3, val_main_call5_call0_v7, val_main_c_69]
  rw [hden, if_pos hpos, spread]
  exact congrArg (fun u => Ideal.sqrt (Ideal.div u _)) hsum

/-- The exponential that both programs take for lane `d`, numbered within its quarter, is `frequency d`. -/
theorem lane_frequency (d k : ℕ) (hk : d % 32 = k) (hd : d < 128) :
    Ideal.exp (FloatOps.sitofp (F := Ideal) .f32 (BitVec.ofNat 32 k) * Ideal.ofBits .f32 0xBE981E82#32)
      = frequency ⟨d, hd⟩ := by
  have h : FloatOps.sitofp (F := Ideal) .f32 (BitVec.ofNat 32 k) = ((k : ℝ) : EReal) := by
    show ((((BitVec.ofNat 32 k).toInt : ℤ) : ℝ) : EReal) = _
    rw [toInt_ofNat_fin ⟨k, by omega⟩]
    norm_cast
  rw [h, frequency]
  subst hk
  rfl

/-- The reference's result before its last transpose. -/
theorem refOut_apply (x0 : Heat) (x1 : (⟨S16x128, .f32⟩ : BufTy).Contents (Elt Ideal)) (b : Fin 256) (r s : Fin 16) (d : Fin 128) :
    val_main_v263 (F := Ideal) x0 x1 (ix4 b r s d)
      = token b (gridOf x0 b) frequency (fun r d => x1 (ix2 r d)) r s d := by
  have hX := refCentredX_apply x0 b r s
  have hY := refCentredY_apply x0 b r s
  have hS := refSpread_apply x0 b
  have hP := refProb_apply x0 b r s
  pointwise [val_main_v263, val_main_v262, val_main_v261, val_main_v260, val_main_v259, val_main_v258, val_main_v257, val_main_v256,
    val_main_v255, val_main_v254, val_main_v253, val_main_v252, val_main_v251, val_main_v250, val_main_v249, val_main_v248,
    val_main_v247, val_main_v246, val_main_v245, val_main_v244, val_main_v243, val_main_v242, val_main_v241, val_main_v240,
    val_main_v239, val_main_v238, val_main_v237, val_main_v236, val_main_v235, val_main_v234, val_main_v233, val_main_v232,
    val_main_v231, val_main_v230, val_main_v229, val_main_v228, val_main_cst_70, val_main_cst_71]
  rw [hX, hY, hS, hP, token]
  refine congrArg (fun u : EReal => u * gridOf x0 b r (drawn b (gridOf x0 b) r s) + x1 (ix2 r d)) ?_
  rw [embedding]
  obtain ⟨d, hd⟩ := d
  simp only
  by_cases h64 : d < 64
  · rw [dif_pos h64, if_pos h64]
    by_cases h32 : d < 32
    · rw [dif_pos h32, if_pos (by omega), lane_frequency d d (by omega) hd]
    · rw [dif_neg h32, if_neg (by omega), lane_frequency d (d - 32) (by omega) hd]
  · rw [dif_neg h64, if_neg h64]
    by_cases h32 : d - 64 < 32
    · rw [dif_pos h32, if_pos (by omega), lane_frequency d (d - 64) (by omega) hd]
    · rw [dif_neg h32, if_neg (by omega), lane_frequency d (d - 64 - 32) (by omega) hd]

end Cert.Sampler

end
-- ==== Proof.Region.lean ====
/- The array the kernel's region leaves, as one function of the arguments. -/
module

public import proofs.«01_k».proof.Proof.KernelBlock
public import proofs.«01_k».proof.Proof.RefCoords
public import proofs.«01_k».proof.Proof.Gen.KernelIdeal.Run
public import Idealize.ShloMosaic.Lib.Pipeline.ValueKit.Geometry

@[expose] public section

set_option maxRecDepth 16384

noncomputable section

namespace Cert.Sampler

open Cert.KernelIdeal Cert.KernelIdeal.Gen Cert.KernelIdeal.Value Idealize.ShloMosaic Idealize.ShloMosaic.TcCoe Idealize.SL.Sem Idealize.ShloMosaic.StableHlo

/-- The result before the last transpose: `token` at every index. -/
def tokens (x0 : Vec Ideal S256x16x64x64 .f32) (x1 : Vec Ideal S16x128 .f32) : Vec Ideal S256x16x16x128 .f32 := fun i =>
  token (i 0) (gridOf x0 (i 0)) frequency (fun r d => x1 (ix2 r d)) (i 1) (i 2) (i 3)

variable (m : (ℓ : Loc nD τ sig) → Buf (Elt Ideal) ℓ) (c : Dev nD)

/-- The heatmap as the region finds it: the argument with its image axes joined. -/
theorem flatHeat_eq : V m c main_v0
    = shapeCast S256x16x4096 (m ((c.tc : Thread nD τ).loc main_arg0)) shapeCasts_S256x16x64x64_S256x16x4096 := by
  show StableHlo.after (List.flatten [hostOps0]) (fun b => m (c, b)) (Proc.devRef .tc main_v0) = _
  simp only [hostOps0, List.flatten_cons, List.flatten_nil, List.append_nil, List.cons_append, List.nil_append]
  after_results
  rfl

/-- The frequencies of one quarter of the lanes. -/
def quarter : FVec Ideal S32 .f32 :=
  Host.exp (mulf (sitofp .f32 (iotaInDim S32 32 0)) (broadcastInDim S32 ![] bcast_S_S32 (constant S_ .f32 0xBE981E82#32)))

/-- The last two operations before the region: four copies of the quarter side by side, as one row. -/
theorem joined_eq (W : Valuation τ sig (Elt Ideal)) :
    StableHlo.after (hostOps0.drop 6) W (Proc.devRef .tc main_v6)
      = shapeCast S1x128 (concatenate S128 0 [⟨S32, W (Proc.devRef .tc main_v4)⟩, ⟨S32, W (Proc.devRef .tc main_v4)⟩,
          ⟨S32, W (Proc.devRef .tc main_v4)⟩, ⟨S32, W (Proc.devRef .tc main_v4)⟩]
          concatenates_S32_S32_S32_S32_S128_d0) shapeCasts_S128_S1x128 := by
  simp only [hostOps0, List.drop_succ_cons, List.drop_zero]
  after_results
  rfl

/-- The operations before those leave the quarter. -/
theorem quarter_eq (W : Valuation τ sig (Elt Ideal)) :
    StableHlo.after (hostOps0.take 6) W (Proc.devRef .tc main_v4) = quarter := by
  simp only [hostOps0, List.take_succ_cons, List.take_zero]
  after_results
  rfl

/-- The frequencies as the region finds them: the quarter, four times. -/
theorem lanes_eq : V m c main_v6
    = shapeCast S1x128 (concatenate S128 0 [⟨S32, quarter⟩, ⟨S32, quarter⟩, ⟨S32, quarter⟩, ⟨S32, quarter⟩]
        concatenates_S32_S32_S32_S32_S128_d0) shapeCasts_S128_S1x128 := by
  show StableHlo.after (hostOps0.drop 6) (StableHlo.after (hostOps0.take 6) (fun b => m (c, b))) (Proc.devRef .tc main_v6) = _
  rw [joined_eq, quarter_eq]

/-- The joined heatmap, clipped, is the batch's grid. -/
theorem flatHeat_apply (b : Fin 256) (r : Fin 16) (k : Fin 4096) :
    clip (V m c main_v0 (ix3 b r k)) = gridOf (m ((c.tc : Thread nD τ).loc main_arg0)) b r k := by
  rw [flatHeat_eq]
  generalize m ((c.tc : Thread nD τ).loc main_arg0) = x
  rw [gridOf]
  refine congrArg clip ?_
  pointwise

/-- The frequencies' row holds `frequency`. -/
theorem lanes_apply (d : Fin 128) : V m c main_v6 (ix2 0 d) = frequency d := by
  rw [lanes_eq]
  pointwise [quarter]
  obtain ⟨d, hd⟩ := d
  by_cases h0 : d < 32
  · rw [dif_pos h0, lane_frequency d d (by omega) hd]
  rw [dif_neg h0]
  by_cases h1 : d - 32 < 32
  · rw [dif_pos h1, lane_frequency d (d - 32) (by omega) hd]
  rw [dif_neg h1]
  by_cases h2 : d - 32 - 32 < 32
  · rw [dif_pos h2, lane_frequency d (d - 32 - 32) (by omega) hd]
  rw [dif_neg h2, lane_frequency d (d - 32 - 32 - 32) (by omega) hd]

/-! ## The windows' blocks -/

/-- The heatmap's window is at the grid point's batch. -/
theorem index0 : ∀ t : Fin cfg0.N, win0_0.index t = ![(grid0.coords t 0).val, 0, 0] := (by decide +kernel : ∀ t : Fin grid0.N, _)
/-- The joint table's window stays at the whole table. -/
theorem index1 : ∀ t : Fin cfg0.N, win0_1.index t = ![0, 0] := (by decide +kernel : ∀ t : Fin grid0.N, _)
/-- The frequencies' window stays at the whole row. -/
theorem index2 : ∀ t : Fin cfg0.N, win0_2.index t = ![0, 0] := (by decide +kernel : ∀ t : Fin grid0.N, _)
/-- The result's window is at the grid point's batch. -/
theorem index3 : ∀ t : Fin cfg0.N, win0_3.index t = ![(grid0.coords t 0).val, 0, 0, 0] := (by decide +kernel : ∀ t : Fin grid0.N, _)

/-- A grid point's number is a batch number. -/
theorem batch_lt (t : Fin cfg0.N) : (grid0.coords t 0).val < 256 := (grid0.coords t 0).isLt

/-- A grid point's block of the heatmap is its batch. -/
theorem heat_block (t : Fin cfg0.N) (b : Fin 256) (hb : b.val = (grid0.coords t 0).val) (r : Fin 16) (k : Fin 4096) :
    iblk m c 0 t (ix3 0 r k) = V m c main_v0 (ix3 b r k) := by
  show V m c main_v0 (((cfg0.win 0).blk t).view.emb (ix3 0 r k : S1x16x4096.Idx)) = _
  refine congrArg (V m c main_v0) (funext fun a => Fin.ext ?_)
  have e := index0 t
  match a with
  | ⟨0, _⟩ => show win0_0.index t 0 * 1 + 1 * 0 = b.val; rw [e, hb]; simp
  | ⟨1, _⟩ => show win0_0.index t 1 * 16 + 1 * r.val = r.val; rw [e]; simp
  | ⟨2, _⟩ => show win0_0.index t 2 * 4096 + 1 * k.val = k.val; rw [e]; simp

/-- A grid point's joint table is the whole table. -/
theorem joint_block (t : Fin cfg0.N) (r : Fin 16) (d : Fin 128) :
    iblk m c 1 t (ix2 r d) = V m c main_arg1 (ix2 r d) := by
  show V m c main_arg1 (((cfg0.win 1).blk t).view.emb (ix2 r d : S16x128.Idx)) = _
  refine congrArg (V m c main_arg1) (funext fun a => Fin.ext ?_)
  have e := index1 t
  match a with
  | ⟨0, _⟩ => show win0_1.index t 0 * 16 + 1 * r.val = r.val; rw [e]; simp
  | ⟨1, _⟩ => show win0_1.index t 1 * 128 + 1 * d.val = d.val; rw [e]; simp

/-- A grid point's frequencies are the whole row. -/
theorem lanes_block (t : Fin cfg0.N) (d : Fin 128) :
    iblk m c 2 t (ix2 0 d) = V m c main_v6 (ix2 0 d) := by
  show V m c main_v6 (((cfg0.win 2).blk t).view.emb (ix2 0 d : S1x128.Idx)) = _
  refine congrArg (V m c main_v6) (funext fun a => Fin.ext ?_)
  have e := index2 t
  match a with
  | ⟨0, _⟩ => show win0_2.index t 0 * 1 + 1 * 0 = 0; rw [e]; simp
  | ⟨1, _⟩ => show win0_2.index t 1 * 128 + 1 * d.val = d.val; rw [e]; simp

/-- What a grid point leaves in the output buffer is `block` of its input blocks. -/
theorem out_apply (i : grid0.Coords) (x0 : Vec Ideal S1x16x4096 .f32) (x1 : Vec Ideal S16x128 .f32) (x2 : Vec Ideal S1x128 .f32) :
    out0_3 i x0 x1 x2 = block i x0 x1 x2 := by
  rw [out_eq]
  have h4 : (![0, 0, 0, 0] : Fin 4 → Nat) = fun _ => 0 := by funext a; fin_cases a <;> rfl
  have h3 : (![0, 0, 0] : Fin 3 → Nat) = fun _ => 0 := by funext a; fin_cases a <;> rfl
  have h2 : (![0, 0] : Fin 2 → Nat) = fun _ => 0 := by funext a; fin_cases a <;> rfl
  rw [View.canon_unit_zero h4, View.ld_unit_zero h3, View.ld_unit_zero h2, View.ld_unit_zero h2]

/-- What a grid point leaves in the output buffer is its batch of `tokens`. -/
theorem point_apply (t : Fin cfg0.N) (b : Fin 256) (hb : b.val = (grid0.coords t 0).val) (r s : Fin 16) (d : Fin 128) :
    out0_3 (grid0.coords t) (iblk m c 0 t) (iblk m c 1 t) (iblk m c 2 t) (ix4 0 r s d)
      = tokens (m ((c.tc : Thread nD τ).loc main_arg0)) (m ((c.tc : Thread nD τ).loc main_arg1)) (ix4 b r s d) := by
  have e0 : blockGrid (iblk m c 0 t) = gridOf (m ((c.tc : Thread nD τ).loc main_arg0)) b := by
    funext r k
    exact (congrArg clip (heat_block m c t b hb r k)).trans (flatHeat_apply m c b r k)
  have e1 : (fun d : Fin 128 => iblk m c 2 t (ix2 0 d)) = frequency :=
    funext fun d => (lanes_block m c t d).trans (lanes_apply m c d)
  have e2 : (fun (r : Fin 16) (d : Fin 128) => iblk m c 1 t (ix2 r d))
      = fun r d => m ((c.tc : Thread nD τ).loc main_arg1) (ix2 r d) :=
    funext fun r => funext fun d => (joint_block m c t r d).trans (congrFun (V_main_arg1 m c) _)
  rw [out_apply, block_apply _ b hb, e0, e1, e2]
  rfl

/-- The array the region leaves. -/
theorem region_eq : reg_main_v7 m c
    = tokens (m ((c.tc : Thread nD τ).loc main_arg0)) (m ((c.tc : Thread nD τ).loc main_arg1)) := by
  refine (dats m 0 c).arrAt_eq_of_covers 3 _ (by decide +kernel) fun t hf y => ?_
  have hb := batch_lt t
  have ey : (y : S1x16x16x128.Idx) = ix4 0 (y 1) (y 2) (y 3) := by
    funext a
    match a with
    | ⟨0, _⟩ => exact Fin.ext (Nat.lt_one_iff.mp (Fin.isLt _))
    | ⟨1, _⟩ => rfl
    | ⟨2, _⟩ => rfl
    | ⟨3, _⟩ => rfl
  have ez : ((cfg0.win 3).blk t).view.emb y = (ix4 ⟨(grid0.coords t 0).val, hb⟩ (y 1) (y 2) (y 3) : S256x16x16x128.Idx) := by
    have e := index3 t
    funext a
    apply Fin.ext
    match a with
    | ⟨0, _⟩ => show win0_3.index t 0 * 1 + 1 * (y 0).val = (grid0.coords t 0).val; rw [e]; have := (y 0).isLt; simp
    | ⟨1, _⟩ => show win0_3.index t 1 * 16 + 1 * (y 1).val = (y 1).val; rw [e]; simp
    | ⟨2, _⟩ => show win0_3.index t 2 * 16 + 1 * (y 2).val = (y 2).val; rw [e]; simp
    | ⟨3, _⟩ => show win0_3.index t 3 * 128 + 1 * (y 3).val = (y 3).val; rw [e]; simp
  rw [ez]
  refine Eq.trans ?_ (point_apply m c t ⟨(grid0.coords t 0).val, hb⟩ rfl (y 1) (y 2) (y 3))
  rw [← after0_3]
  exact congrArg ((dats m 0 c).after 3 t) ey

end Cert.Sampler

end
-- ==== Proof.lean ====
/-
  The five claims. Both programs run the generated way: the kernel's result is a transpose of the array its region
  leaves (`Sampler.region_eq`), the reference's a transpose of the array its last addition leaves
  (`Sampler.refOut_apply`), and both arrays are `Sampler.tokens` of the two arguments.
-/
module

public import proofs.«01_k».proof.Defs
public import proofs.«01_k».proof.Proof.Region
public import proofs.«01_k».proof.Proof.RefCoords
public import proofs.«01_k».proof.Proof.Gen.Kernel.Frame
public import proofs.«01_k».proof.Proof.Gen.KernelIdeal.Frame
public import proofs.«01_k».proof.Proof.Gen.KernelIdeal.Run
public import proofs.«01_k».proof.Proof.Gen.ReferenceIdeal.Run
public import proofs.«01_k».proof.Proof.Gen.ReferenceIdeal.Read

@[expose] public section

noncomputable section

namespace Cert.Proof

open Idealize.ShloMosaic Idealize.ShloMosaic.TcCoe Idealize.SL.Sem Cert.Sampler

/-- The reference's array before its last transpose is `tokens`. -/
theorem reference_tokens (x0 : Vec Ideal Cert.KernelIdeal.S256x16x64x64 .f32) (x1 : Vec Ideal Cert.KernelIdeal.S16x128 .f32) :
    Cert.ReferenceIdeal.Read.val_main_v263 (F := Ideal) x0 x1 = tokens x0 x1 := by
  funext i
  have ei : i = ix4 (i 0) (i 1) (i 2) (i 3) := by
    funext a
    match a with
    | ⟨0, _⟩ => rfl
    | ⟨1, _⟩ => rfl
    | ⟨2, _⟩ => rfl
    | ⟨3, _⟩ => rfl
  rw [ei]
  exact refOut_apply x0 x1 (i 0) (i 1) (i 2) (i 3)

/-- What both programs return: `tokens` with the sample axis before the joint axis. -/
def result (x0 : Vec Ideal Cert.KernelIdeal.S256x16x64x64 .f32) (x1 : Vec Ideal Cert.KernelIdeal.S16x128 .f32) :
    Vec Ideal Cert.KernelIdeal.S256x16x16x128 .f32 :=
  transpose Cert.KernelIdeal.S256x16x16x128 [0, 2, 1, 3] (tokens x0 x1)
    Cert.KernelIdeal.Facts₀.transposes_S256x16x16x128_S256x16x16x128_0_2_1_3

/-- The reference's result, of its two arguments. -/
theorem reference_result (x0 : Vec Ideal Cert.KernelIdeal.S256x16x64x64 .f32) (x1 : Vec Ideal Cert.KernelIdeal.S16x128 .f32) :
    Cert.ReferenceIdeal.Read.val_main_v264 (F := Ideal) x0 x1 = result x0 x1 := by
  unfold Cert.ReferenceIdeal.Read.val_main_v264
  rw [reference_tokens]
  rfl

/-- The reference leaves its arguments alone and has no semaphore. -/
theorem reference_frame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Over the extended reals the kernel and the reference return the same array. -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Value.run (F := Ideal) m ρ)
    rw [region_eq]
    rfl
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v264_eq (F := Ideal) (StableHlo.launchContents m' c)).trans ?_
    refine (reference_result (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))).trans ?_
    exact congrArg₂ result (hagree c).1 (hagree c).2

/-- The certificate's claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, algebraic⟩

end Cert.Proof

end
